-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v5)) (v1 : (c : Dev Cert.Kernel.nD) → Buf (Elt Bits) ((c.tc : Thread Cert.Kernel.nD Cert.Kernel.τ).loc Cert.Kernel.main_v9)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v9) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v12) = v0 c
          ∧ r.2.mem ((c.tc : Thread Cert.Reference.nD Cert.Reference.τ).loc Cert.Reference.main_v11) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S1000000x64 : Shape := ⟨2, ![1000000, 64]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1000000x64 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1000000x64 : Shape := ⟨2, ![1000000, 64]⟩
abbrev S_ : Shape := ⟨0, ![]⟩
abbrev S1000000x128 : Shape := ⟨2, ![1000000, 128]⟩
abbrev S204800 : Shape := ⟨1, ![204800]⟩
abbrev S1x204800 : Shape := ⟨2, ![1, 204800]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S204800x64 : Shape := ⟨2, ![204800, 64]⟩
abbrev S1024x200x64 : Shape := ⟨3, ![1024, 200, 64]⟩
abbrev S1024x1x200x200 : Shape := ⟨4, ![1024, 1, 200, 200]⟩
abbrev S8x200 : Shape := ⟨2, ![8, 200]⟩
abbrev S8x1x200x200 : Shape := ⟨4, ![8, 1, 200, 200]⟩
abbrev S8x1x1x200 : Shape := ⟨4, ![8, 1, 1, 200]⟩

abbrev nBuf : Table → Nat
  | .hbm => 15
  | .local .tc .vmem => 4
  | .local .scVector .vmem => 2
  | _ => 0

abbrev bufTy : (tb : Table) → Fin (nBuf tb) → BufTy
  | .hbm, ⟨0, _⟩ => ⟨S1024x200, .i32⟩
  | .hbm, ⟨1, _⟩ => ⟨S1000000x64, .f32⟩
  | .hbm, ⟨2, _⟩ => ⟨S_, .i32⟩
  | .hbm, ⟨3, _⟩ => ⟨S_, .f32⟩
  | .hbm, ⟨4, _⟩ => ⟨S1000000x128, .f32⟩
  | .hbm, ⟨5, _⟩ => ⟨S204800, .i32⟩
  | .hbm, ⟨6, _⟩ => ⟨S1x204800, .i32⟩
  | .hbm, ⟨7, _⟩ => ⟨S204800x128, .f32⟩
  | .hbm, ⟨8, _⟩ => ⟨S204800x64, .f32⟩
  | .hbm, ⟨9, _⟩ => ⟨S1024x200x64, .f32⟩
  | .hbm, ⟨10, _⟩ => ⟨S1024x1x200x200, .i32⟩
  | .hbm, ⟨11, _⟩ => ⟨S_, .i32⟩
  | .hbm, ⟨12, _⟩ => ⟨S1024x1x200x200, .i32⟩
  | .hbm, ⟨13, _⟩ => ⟨S1024x1x200x200, .i1⟩
  | .hbm, ⟨14, _⟩ => ⟨S1024x1x200x200, .i1⟩
  | .local .tc .vmem, ⟨0, _⟩ => ⟨S8x200, .i32⟩
  | .local .tc .vmem, ⟨1, _⟩ => ⟨S8x200, .i32⟩
  | .local .tc .vmem, ⟨2, _⟩ => ⟨S8x1x200x200, .i32⟩
  | .local .tc .vmem, ⟨3, _⟩ => ⟨S8x1x200x200, .i32⟩
  | .local .scVector .vmem, ⟨0, _⟩ => ⟨S2x1x128, .i32⟩
  | .local .scVector .vmem, ⟨1, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v0_scv : Ref sig .scVector := ⟨.hbm, 4, rfl⟩
abbrev main_v2_scv : Ref sig .scVector := ⟨.hbm, 6, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S204800x128.size a)
theorem k0_off19_inb : ∀ (i : grid0.Coords) (v33_4_r0 : BitVec 32) (k0_hw5 : k0_chk5 i v33_4_r0), ∀ a, (k0_off19 i v33_4_r0) a + S128x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1x200x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1024x200 : Shape := ⟨2, ![1024, 200]⟩
abbrev S1000000x64 : Shape := ⟨2, ![1000000, 64]⟩
abbrev S_ : Shape := ⟨0, ![]⟩
abbrev S1024x1x1x200 : Shape := ⟨4, ![1024, 1, 1, 200]⟩
abbrev S200x200 : Shape := ⟨2, ![200, 200]⟩
abbrev S1x1x200x200 : Shape := ⟨4, ![1, 1, 200, 200]⟩
abbrev S1024x1x200x200 : Shape := ⟨4, ![1024, 1, 200, 200]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩

abbrev nBuf : Space → Nat
  | .hbm => 48
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000000x64, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S1024x1x1x200, .i1⟩
  | .hbm, ⟨6, _⟩ => ⟨S_, .i8⟩
  | .hbm, ⟨7, _⟩ => ⟨S200x200, .i8⟩
  | .hbm, ⟨8, _⟩ => ⟨S200x200, .i32⟩
  | .hbm, ⟨9, _⟩ => ⟨S_, .i32⟩
  | .hbm, ⟨10, _⟩ => ⟨S200x200, .i32⟩
  | .hbm, ⟨11, _⟩ => ⟨S200x200, .i32⟩
  | .hbm, ⟨12, _⟩ => ⟨S200x200, .i32⟩
  | .hbm, ⟨13, _⟩ => ⟨S200x200, .i1⟩
  | .hbm, ⟨14, _⟩ => ⟨S_, .i8⟩
  | .hbm, ⟨15, _⟩ => ⟨S200x200, .i8⟩
  | .hbm, ⟨16, _⟩ => ⟨S200x200, .i8⟩
  | .hbm, ⟨17, _⟩ => ⟨S_, .i8⟩
  | .hbm, ⟨18, _⟩ => ⟨S200x200, .i8⟩
  | .hbm, ⟨19, _⟩ => ⟨S200x200, .i1⟩
  | .hbm, ⟨20, _⟩ => ⟨S200x200, .i1⟩
  | .hbm, ⟨21, _⟩ => ⟨S1x1x200x200, .i1⟩
  | .hbm, ⟨22, _⟩ => ⟨S1024x1x200x200, .i1⟩
  | .hbm, ⟨23, _⟩ => ⟨S1024x1x200x200, .i1⟩
  | .hbm, ⟨24, _⟩ => ⟨S1024x1x200x200, .i1⟩
  | .hbm, ⟨25, _⟩ => ⟨S_, .i32⟩
  | .hbm, ⟨26, _⟩ => ⟨S1024x200, .i32⟩
  | .hbm, ⟨27, _⟩ => ⟨S1024x200, .i1⟩
  | .hbm, ⟨28, _⟩ => ⟨S_, .i32⟩
  | .hbm, ⟨29, _⟩ => ⟨S1024x200, .i32⟩
  | .hbm, ⟨30, _⟩ => ⟨S1024x200, .i32⟩
  | .hbm, ⟨31, _⟩ => ⟨S1024x200, .i32⟩
  | .hbm, ⟨32, _⟩ => ⟨S1024x200x1, .i32⟩
  | .hbm, ⟨33, _⟩ => ⟨S1, .i32⟩
  | .hbm, ⟨34, _⟩ => ⟨S_, .i32⟩
  | .hbm, ⟨35, _⟩ => ⟨S1024x200x1, .i32⟩
  | .hbm, ⟨36, _⟩ => ⟨S1024x200x1, .i1⟩
  | .hbm, ⟨37, _⟩ => ⟨S1x1x1, .i32⟩
  | .hbm, ⟨38, _⟩ => ⟨S1024x200x1, .i32⟩
  | .hbm, ⟨39, _⟩ => ⟨S1024x200x1, .i1⟩
  | .hbm, ⟨40, _⟩ => ⟨S1024x200x1, .i1⟩
  | .hbm, ⟨41, _⟩ => ⟨S_, .i1⟩
  | .hbm, ⟨42, _⟩ => ⟨S1024x200, .i1⟩
  | .hbm, ⟨43, _⟩ => ⟨S1024x200x64, .f32⟩
  | .hbm, ⟨44, _⟩ => ⟨S1024x200x64, .i1⟩
  | .hbm, ⟨45, _⟩ => ⟨S_, .f32⟩
  | .hbm, ⟨46, _⟩ => ⟨S1024x200x64, .f32⟩
  | .hbm, ⟨47, _⟩ => ⟨S1024x200x64, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v12 : Ref sig .tc := ⟨.hbm, 47, rfl⟩

abbrev nD : Nat := 1
abbrev τ : Topo := Topo.v7x

variable {F : FTy → Type} [FloatOps F]
-- ==== Proof.Words.lean ====
/-
  The gather kernel's word arithmetic in closed form. The ring the kernel runs carries five words from trip to trip
  (`ringWords`): before trip `n` they are the next block to fetch, the block awaited and gathered, the block written out,
  the block whose write-out is awaited next, and the block the trip works on. Each offset, condition and check the
  kernel computes from them is stated here at those words, trip by trip.
-/
module

public import proofs.«01_k».proof.Proof.Gen.KernelIdeal
public import proofs.«01_k».proof.Proof.Gen.KernelIdeal.Skeleton

@[expose] public section

set_option Elab.async false
set_option maxRecDepth 20000

namespace Cert.Proof.Gather

open Cert.KernelIdeal Cert.KernelIdeal.Gen
open Idealize.ShloMosaic

theorem trips_eq : k0_t1_loop.trips = 50 := by decide +kernel
theorem lt50 (t : Fin k0_t1_loop.trips) : t.val < 50 := trips_eq ▸ t.isLt

/-- The words carried into trip `n`. -/
def ringWords (n : ℕ) : BitVec 32 × BitVec 32 × BitVec 32 × BitVec 32 × BitVec 32 :=
  (BitVec.ofNat 32 (min (n + 1) 50), BitVec.ofNat 32 n, BitVec.ofNat 32 n, BitVec.ofNat 32 (n - 1), BitVec.ofNat 32 (n % 50))

abbrev w6 (n : ℕ) : BitVec 32 := BitVec.ofNat 32 (min (n + 1) 50)
abbrev w7 (n : ℕ) : BitVec 32 := BitVec.ofNat 32 n
abbrev w9 (n : ℕ) : BitVec 32 := BitVec.ofNat 32 (n - 1)
abbrev w10 (n : ℕ) : BitVec 32 := BitVec.ofNat 32 (n % 50)

/-- A tile's first block, as the kernel computes it: fifty blocks to a tile. -/
def base (i : grid0.Coords) : BitVec 32 :=
  Scalar.muli (Scalar.addi (Scalar.addi 0#32 (Scalar.muli (BitVec.ofNat 32 (i 1).val) 1#32)) (Scalar.muli (BitVec.ofNat 32 (i 0).val) 16#32)) 50#32

/-- The first row of tile `i`'s block `b`. -/
def row0 (i : grid0.Coords) (b : ℕ) : ℕ := 128 * (50 * ((i 1).val + 16 * (i 0).val) + b)

/-- Trip `n` fetches ahead on every trip but the last. -/
theorem cond1_eq : ∀ (i : grid0.Coords) (t : Fin k0_t1_loop.trips), k0_cond1 i t (w10 t.val) = if t.val < 49 then 1#1 else 0#1 := by decide +kernel
theorem cond2_eq : ∀ (i : grid0.Coords) (t : Fin k0_t1_loop.trips), k0_cond2 i t (w10 t.val) = 1#1 := by decide +kernel
theorem cond5_eq : ∀ (i : grid0.Coords) (t : Fin k0_t1_loop.trips), k0_cond5 i t (w10 t.val) = 1#1 := by decide +kernel
theorem cond7_eq : ∀ (i : grid0.Coords) (t : Fin k0_t1_loop.trips), k0_cond7 i t (w10 t.val) = if 0 < t.val then 1#1 else 0#1 := by decide +kernel

theorem off4_eq : ∀ t : Fin k0_t1_loop.trips, t.val < 49 → k0_off4 (w6 t.val) = ![(t.val + 1) % 2, 0, 0] := by decide +kernel
theorem off5_eq : ∀ (i : grid0.Coords) (t : Fin k0_t1_loop.trips), t.val < 49 → k0_off5 i (w10 t.val) = ![0, row0 i (t.val + 1)] := by decide +kernel
theorem off6_eq : ∀ t : Fin k0_t1_loop.trips, t.val < 49 → k0_off6 (w6 t.val) = ![(t.val + 1) % 2] := by decide +kernel
theorem off7_eq : ∀ t : Fin k0_t1_loop.trips, k0_off7 (w7 t.val) = ![t.val % 2, 0, 0] := by decide +kernel
theorem off8_eq : ∀ (i : grid0.Coords) (t : Fin k0_t1_loop.trips), k0_off8 i (w10 t.val) = ![0, row0 i t.val] := by decide +kernel
theorem off9_eq : ∀ t : Fin k0_t1_loop.trips, k0_off9 (w7 t.val) = ![t.val % 2] := by decide +kernel
theorem off10_eq : ∀ t : Fin k0_t1_loop.trips, k0_off10 (w7 t.val) = ![t.val % 2, 0, 0] := by decide +kernel
theorem off11_eq : ∀ t : Fin k0_t1_loop.trips, k0_off11 (w7 t.val) = ![t.val % 2, 0, 0] := by decide +kernel
theorem off12_eq : ∀ t : Fin k0_t1_loop.trips, k0_off12 (w7 t.val) = ![t.val % 2, 0, 0] := by decide +kernel
theorem off13_eq : ∀ (i : grid0.Coords) (t : Fin k0_t1_loop.trips), k0_off13 i (w10 t.val) = ![row0 i t.val, 0] := by decide +kernel
theorem off14_eq : ∀ t : Fin k0_t1_loop.trips, k0_off14 (w7 t.val) = ![t.val % 2] := by decide +kernel
theorem off15_eq : ∀ t : Fin k0_t1_loop.trips, 0 < t.val → k0_off15 (w9 t.val) = ![(t.val + 1) % 2, 0, 0] := by decide +kernel
theorem off16_eq : ∀ (i : grid0.Coords) (t : Fin k0_t1_loop.trips), 0 < t.val → k0_off16 i (w10 t.val) = ![row0 i (t.val - 1), 0] := by decide +kernel
theorem off17_eq : ∀ t : Fin k0_t1_loop.trips, 0 < t.val → k0_off17 (w9 t.val) = ![(t.val + 1) % 2] := by decide +kernel

/-- After the last trip. -/
theorem off19_eq : ∀ i : grid0.Coords, k0_off19 i (w10 50) = ![row0 i 49, 0] := by decide +kernel
theorem off20_eq : k0_off20 (w9 50) = ![1] := by decide +kernel
theorem off21_eq : k0_off21 (w9 50) = ![1, 0, 0] := by decide +kernel
theorem off2_eq (i : grid0.Coords) : k0_off2 i = ![0, row0 i 0] := by
  revert i; decide +kernel

theorem chk1_ok : ∀ (i : grid0.Coords) (t : Fin k0_t1_loop.trips), k0_chk1 i t (w6 t.val) (w7 t.val) (w7 t.val) (w9 t.val) (w10 t.val) := by
  decide +kernel
theorem chk2_ok : ∀ t : Fin k0_t1_loop.trips, k0_chk2 (w7 t.val) := by decide +kernel
theorem chk3_ok : ∀ t : Fin k0_t1_loop.trips, k0_chk3 (w7 t.val) := by decide +kernel
theorem chk4_ok : k0_chk4 (w9 50) := by decide +kernel
theorem chk5_ok : ∀ i : grid0.Coords, k0_chk5 i (w10 50) := by decide +kernel

/-- The block a trip works on, the one before and the one after it, as words. -/
abbrev v66 (i : grid0.Coords) (n : ℕ) : BitVec 32 := Scalar.addi (w10 n) (base i)
abbrev v71 (i : grid0.Coords) (n : ℕ) : BitVec 32 :=
  Scalar.addi (Scalar.select (Scalar.cmpi .eq (Scalar.select 1#1 (Scalar.subi (w10 n) 1#32) (w10 n)) 4294967295#32) 49#32
    (Scalar.select 1#1 (Scalar.subi (w10 n) 1#32) (w10 n))) (base i)
abbrev v76 (i : grid0.Coords) (n : ℕ) : BitVec 32 :=
  Scalar.addi (Scalar.select (Scalar.cmpi .eq (Scalar.select 1#1 (Scalar.addi (w10 n) 1#32) (w10 n)) 50#32) 0#32
    (Scalar.select 1#1 (Scalar.addi (w10 n) 1#32) (w10 n))) (base i)

/-- What a trip carries on to the next. -/
theorem next_words : ∀ (i : grid0.Coords) (t : Fin k0_t1_loop.trips),
    (Scalar.select (Scalar.andi (Scalar.andi (Scalar.cmpi .ne (v66 i t.val) (v76 i t.val))
        (Scalar.xori (Scalar.cmpi .sge (Scf.iv 0#32 1#32 t) 49#32) 1#1)) 1#1) (Scalar.addi (w6 t.val) 1#32) (w6 t.val),
      Scalar.select (Scalar.ori (Scalar.cmpi .ne (v66 i t.val) (v76 i t.val)) (Scalar.cmpi .eq (Scf.iv 0#32 1#32 t) 49#32))
        (Scalar.addi (w7 t.val) 1#32) (w7 t.val),
      Scalar.select (Scalar.andi (Scalar.ori (Scalar.cmpi .ne (v66 i t.val) (v76 i t.val)) (Scalar.cmpi .eq (Scf.iv 0#32 1#32 t) 49#32)) 1#1)
        (Scalar.addi (w7 t.val) 1#32) (w7 t.val),
      Scalar.select (Scalar.andi (Scalar.andi (Scalar.cmpi .ne (v66 i t.val) (v71 i t.val))
        (Scalar.xori (Scalar.cmpi .eq (Scf.iv 0#32 1#32 t) 0#32) 1#1)) 1#1) (Scalar.addi (w9 t.val) 1#32) (w9 t.val),
      Scalar.select (Scalar.cmpi .eq (Scalar.select 1#1 (Scalar.addi (w10 t.val) 1#32) (w10 t.val)) 50#32) 0#32
        (Scalar.select 1#1 (Scalar.addi (w10 t.val) 1#32) (w10 t.val))) = ringWords (t.val + 1) := by decide +kernel

end Cert.Proof.Gather
-- ==== Proof.Views.lean ====
/-
  The pieces of memory the gather kernel's transfers move: a tile's fifty blocks of the row-number list and of the
  output, the two slots of the list buffer and of the row buffer, their semaphores; and what a block of the output
  holds once it has been gathered.
-/
module

public import proofs.«01_k».proof.Proof.Words
public import Idealize.ShloMosaic.Lib.SparseCore.Stream
public import Idealize.ShloMosaic.Lib.ValueIdxCore

@[expose] public section

noncomputable section

namespace Cert.Proof.Gather

open Cert.KernelIdeal Cert.KernelIdeal.Gen
open Idealize.ShloMosaic
open Idealize.ShloMosaic.ValueIdx

variable {F : FTy → Type}

/-! ## The pieces -/

theorem row0_le (L : grid0.Coords) (b : Fin 50) : row0 L b.val + 128 ≤ 204800 := by
  have h0 : (L 0).val < 2 := (L 0).isLt
  have h1 : (L 1).val < 16 := (L 1).isLt
  have hb := b.isLt
  unfold row0; omega

theorem idxB_inb (L : grid0.Coords) (b : Fin 50) : ∀ a, (![0, row0 L b.val] : Fin 2 → ℕ) a + S1x128.size a ≤ S1x204800.size a := fun a =>
  match a with
  | 0 => by show 0 + 1 ≤ 1; omega
  | 1 => row0_le L b
theorem outB_inb (L : grid0.Coords) (b : Fin 50) : ∀ a, (![row0 L b.val, 0] : Fin 2 → ℕ) a + S128x128.size a ≤ S204800x128.size a := fun a =>
  match a with
  | 0 => row0_le L b
  | 1 => by show 0 + 128 ≤ 128; omega
theorem idxS_inb (p : Fin 2) : ∀ a, (![p.val, 0, 0] : Fin 3 → ℕ) a + S1x1x128.size a ≤ S2x1x128.size a := by revert p; decide
theorem rowS_inb (p : Fin 2) : ∀ a, (![p.val, 0, 0] : Fin 3 → ℕ) a + S1x128x128.size a ≤ S2x128x128.size a := by revert p; decide
theorem sem_inb (p : Fin 2) : ∀ a, (![p.val] : Fin 1 → ℕ) a + S1.size a ≤ S2.size a := by revert p; decide

/-- Block `b` of tile `L`'s part of the list, and of the output. -/
abbrev idxB (L : grid0.Coords) (b : Fin 50) : Memref sig .scVector .hbm S1x128 .i32 :=
  (Memref.whole main_v2_scv).slice (Rect.unit (s := S1x204800) ![0, row0 L b.val] S1x128.size (idxB_inb L b)) (fun _ => rfl)
abbrev outB (L : grid0.Coords) (b : Fin 50) : Memref sig .scVector .hbm S128x128 .f32 :=
  (Memref.whole main_v3_scv).slice (Rect.unit (s := S204800x128) ![row0 L b.val, 0] S128x128.size (outB_inb L b)) (fun _ => rfl)
/-- Slot `p` of the list buffer — as the list copy lands in it, and as the gather reads it — and of the row buffer. -/
abbrev idxS (p : Fin 2) : Memref sig .scVector .vmem S1x128 .i32 :=
  ((Memref.whole cc0_scoped0).slice (Rect.unit (s := S2x1x128) ![p.val, 0, 0] S1x1x128.size (idxS_inb p)) (fun _ => rfl)).squeeze S1x128 squeezes_S1x1x128_S1x128
abbrev listS (p : Fin 2) : Memref sig .scVector .vmem S128 .i32 :=
  ((idxS p).slice (Rect.unit (s := S1x128) ![0, 0] S1x128.size inb_S1x128_S1x128_0_0) (fun _ => rfl)).squeeze S128 squeezes_S1x128_S128
abbrev rowS (p : Fin 2) : Memref sig .scVector .vmem S128x128 .f32 :=
  ((Memref.whole cc0_scoped2).slice (Rect.unit (s := S2x128x128) ![p.val, 0, 0] S1x128x128.size (rowS_inb p)) (fun _ => rfl)).squeeze S128x128 squeezes_S1x128x128_S128x128
/-- The table, as the gather reads it. -/
abbrev tabV : Memref sig .scVector .hbm S1000000x128 .f32 :=
  (Memref.whole main_v0_scv).slice (Rect.unit (s := S1000000x128) ![0, 0] S1000000x128.size inb_S1000000x128_S1000000x128_0_0) (fun _ => rfl)
/-- The list slots' semaphores, the row slots', the gather's. -/
abbrev semI (p : Fin 2) : DmaSem sig := ((cc0_scoped1.slice (Rect.unit (s := S2) ![p.val] S1.size (sem_inb p))).squeeze S_ squeezes_S1_S_).sem
abbrev semR (p : Fin 2) : DmaSem sig := ((cc0_scoped3.slice (Rect.unit (s := S2) ![p.val] S1.size (sem_inb p))).squeeze S_ squeezes_S1_S_).sem
abbrev semG : DmaSem sig := cc0_scoped4.sem

theorem semI_val : ∀ p : Fin 2, (semI p).val = p.val := by decide
theorem semR_val : ∀ p : Fin 2, (semR p).val = 2 + p.val := by decide
theorem semG_val : (semG).val = 4 := by decide

/-- The slot of block `n`. -/
abbrev par (n : ℕ) : Fin 2 := ⟨n % 2, Nat.mod_lt _ (by decide)⟩

/-! ## Where they lie -/

theorem idxB_emb (L : grid0.Coords) (b : Fin 50) (x : S1x128.Idx) :
    (idxB L b).view.emb x = (ix2 (0 : Fin 1) (⟨row0 L b.val + (x 1).val, Nat.lt_of_lt_of_le (Nat.add_lt_add_left (x 1).isLt _) (row0_le L b)⟩ : Fin 204800) : S1x204800.Idx) := by
  funext a
  have hx : (x 0).val < 1 := (x 0).isLt
  match a with
  | ⟨0, _⟩ => exact Fin.ext (show 0 + 1 * (x 0).val = 0 by omega)
  | ⟨1, _⟩ => exact Fin.ext (show row0 L b.val + 1 * (x 1).val = row0 L b.val + (x 1).val by omega)

theorem outB_emb (L : grid0.Coords) (b : Fin 50) (x : S128x128.Idx) :
    (outB L b).view.emb x = (ix2 (⟨row0 L b.val + (x 0).val, Nat.lt_of_lt_of_le (Nat.add_lt_add_left (x 0).isLt _) (row0_le L b)⟩ : Fin 204800) (x 1) : S204800x128.Idx) := by
  funext a
  match a with
  | ⟨0, _⟩ => exact Fin.ext (show row0 L b.val + 1 * (x 0).val = row0 L b.val + (x 0).val by omega)
  | ⟨1, _⟩ => exact Fin.ext (show 0 + 1 * (x 1).val = (x 1).val by omega)

theorem tabV_emb (x : S1000000x128.Idx) : (tabV).view.emb x = x := by
  funext a
  match a with
  | ⟨0, _⟩ => exact Fin.ext (show 0 + 1 * (x 0).val = (x 0).val by omega)
  | ⟨1, _⟩ => exact Fin.ext (show 0 + 1 * (x 1).val = (x 1).val by omega)

/-- Entry `k` of the list as the gather reads it is word `k` of the slot. -/
theorem list_entry (k : Fin 128) : (Shape.reshapeEquiv squeezes_S1x128_S128.numel_eq) (ix1 k : S128.Idx) = (ix2 (0 : Fin 1) k : S1x128.Idx) := by
  revert k; decide +kernel

theorem rowMajor_entry (k : Fin 128) : S128.rowMajor.symm (k.cast (rfl : 128 = S128.numel)) = (ix1 k : S128.Idx) := by
  revert k; decide +kernel

/-! ## What is gathered -/

/-- Row `fi x` of the table at each row `x` of the output. -/
def gat (ft : S1000000x128.Idx → Elt F .f32) (fi : S1x204800.Idx → Elt F .i32) : S204800x128.Idx → Elt F .f32 :=
  fun x => ft (ix2 (⟨(fi (ix2 (0 : Fin 1) (x 0))).toNat % 1000000, Nat.mod_lt _ (by decide)⟩ : Fin 1000000) (x 1))

/-- Slot `p`'s list, its buffer at `fo`, is block `b` of the tile's row numbers. -/
def IsList (L : grid0.Coords) (b : Fin 50) (p : Fin 2) (fi : S1x204800.Idx → Elt F .i32) (fo : (listS p).view.ty.Contents (Elt F)) : Prop :=
  ∀ k : Fin 128, (listS p).view.read (Elt F) fo (ix1 k) = fi ((idxB L b).view.emb (ix2 (0 : Fin 1) k))

theorem isList_of_copy (L : grid0.Coords) (b : Fin 50) (p : Fin 2) (fi : S1x204800.Idx → Elt F .i32) (f : (idxS p).view.ty.Contents (Elt F)) :
    IsList L b p fi ((idxS p).view.write (Elt F) f ((idxB L b).view.read (Elt F) fi) Finset.univ) := by
  intro k
  have h : ∀ g : (idxS p).view.ty.Contents (Elt F), (listS p).view.read (Elt F) g (ix1 k) = (idxS p).view.read (Elt F) g (ix2 (0 : Fin 1) k) := by
    intro g
    rw [View.read_apply, View.read_apply]
    have he : (listS p).view.emb (ix1 k) = (idxS p).view.emb (ix2 (0 : Fin 1) k) := by
      show (idxS p).view.emb ((Rect.unit (s := S1x128) ![0, 0] S1x128.size inb_S1x128_S1x128_0_0).emb ((Shape.reshapeEquiv squeezes_S1x128_S128.numel_eq) (ix1 k : S128.Idx))) = _
      rw [list_entry]
      congr 1
      funext a
      match a with
      | ⟨0, _⟩ => exact Fin.ext (show 0 + 1 * 0 = 0 by omega)
      | ⟨1, _⟩ => exact Fin.ext (show 0 + 1 * k.val = k.val by omega)
    rw [he]
  rw [h, View.read_write_univ]
  rfl

/-- The row numbers of a list in range are rows of the table. -/
theorem isList_inRange {L : grid0.Coords} {b : Fin 50} {p : Fin 2} {fi : S1x204800.Idx → Elt F .i32} {fo : (listS p).view.ty.Contents (Elt F)}
    (h : IsList L b p fi fo) (hfi : ∀ x, (fi x).toNat < 1000000) :
    ∀ x, ((listS p).view.read (Elt F) fo x).toNat < S1000000x128.size gathers_S1000000x128_S128x128.axis := by
  intro x
  have e : (listS p).view.read (Elt F) fo x = fi ((idxB L b).view.emb (ix2 (0 : Fin 1) (x 0))) :=
    (congrArg ((listS p).view.read (Elt F) fo) (eq_ix1 x)).trans (h (x 0))
  rw [e]
  exact hfi _

/-- A row slot holding the gathered rows, copied out, makes the output block the gathered rows. -/
theorem gathered (L : grid0.Coords) (b : Fin 50) (p : Fin 2) (ft : S1000000x128.Idx → Elt F .f32) (fi : S1x204800.Idx → Elt F .i32)
    (fo : (listS p).view.ty.Contents (Elt F)) (h : IsList L b p fi fo) (hfi : ∀ x, (fi x).toNat < 1000000)
    (fr : (rowS p).view.ty.Contents (Elt F)) (f0 : (outB L b).view.ty.Contents (Elt F)) :
    ∀ x ∈ (outB L b).view.set,
      (outB L b).view.write (Elt F) f0 ((rowS p).view.read (Elt F) ((rowS p).view.write (Elt F) fr
        (SparseCore.gatherPayload gathers_S1000000x128_S128x128 ((tabV).view.read (Elt F) ft)
          (SparseCore.rows ((listS p).view.read (Elt F) fo) rfl (isList_inRange h hfi))) Finset.univ)) Finset.univ x = gat ft fi x := by
  intro x hx
  obtain ⟨y, -, rfl⟩ := Finset.mem_map.1 hx
  rw [View.write_emb_of_mem _ _ (Finset.mem_univ y), View.read_write_univ]
  refine (cast_eq _ _).trans ?_
  unfold SparseCore.gatherPayload gat
  rw [View.read_apply]
  refine (cast_eq _ _).trans ?_
  rw [tabV_emb, outB_emb]
  congr 1
  refine funext fun a => ?_
  match a with
  | ⟨0, _⟩ =>
    refine (Shape.Gathers.idx_axis gathers_S1000000x128_S128x128 _ y).trans (Fin.ext ?_)
    show ((listS p).view.read (Elt F) fo (S128.rowMajor.symm ((y 0).cast rfl))).toNat = (fi _).toNat % 1000000
    rw [Nat.mod_eq_of_lt (hfi _)]
    have e : (listS p).view.read (Elt F) fo (S128.rowMajor.symm ((y 0).cast rfl)) = fi ((idxB L b).view.emb (ix2 (0 : Fin 1) (y 0))) :=
      (congrArg ((listS p).view.read (Elt F) fo) (rowMajor_entry (y 0))).trans (h (y 0))
    rw [e, idxB_emb]
  | ⟨1, _⟩ =>
    exact Fin.ext (Shape.Gathers.idx_of_ne gathers_S1000000x128_S128x128 _ y 1 (by decide))

end Cert.Proof.Gather
-- ==== Proof.Setup.lean ====
/-
  The program as the launch theorem of the SparseCores sees it, and the resources: the handshakes' rounds, the
  TensorCore pipeline's rounds, the transfers' counters.
-/
module

public import proofs.«01_k».proof.Defs
public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal.Launch
public import proofs.«01_k».proof.Proof.Gen.KernelIdeal.Points

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; beside them the TensorCore pipeline's and the transfers' counters. -/
abbrev UH : Type := URounds (GSem nD τ sig) ℕ
abbrev UP : Type := UR sig nD τ
abbrev UU : Type := UH × (UP × Counters)

abbrev MM (F : FTy → Type) := MT nD τ sig (HIx 1) (Elt F) ℕ UU ℕ

abbrev EH : Emb UH (MM F) := embL

end Cert.Proof.Gather
-- ==== Proof.Mask.lean ====
/-
  The attention mask's pallas_call: 128 grid points, each from eight rows of the indices to the mask words of those rows.
  The array it leaves is one function of the indices.
-/
module

public import proofs.«01_k».proof.Proof.Setup
public import proofs.«01_k».proof.Proof.Gen.KernelIdeal.Skeleton
public import Idealize.ShloMosaic.Lib.Pipeline.ValueKit
public import Idealize.ShloMosaic.Lib.Pipeline.Covers
public import Idealize.ShloMosaic.Lib.Pipeline.FrameBody

@[expose] public section

noncomputable section

namespace Cert.Proof.Gather

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig (HIx 1) (Elt F) ℕ UU ℕ

/-- The mask word at batch row `x 0`, query `x 2`, key `x 3`: one where the key's index is not the padding index and
    the key is not after the query. -/
def maskAt (iv : S1024x200.Idx → BitVec 32) : S1024x1x200x200.Idx → BitVec 32 := fun x =>
  if iv (ix2 (x 0) (x 3)) ≠ 0#32 ∧ (x 3).val ≤ (x 2).val then 1#32 else 0#32

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Two decided bits joined and widened: one where both hold. -/
theorem joined_bits (p q : Prop) [Decidable p] [Decidable q] :
    BitVec.setWidth 32 (BitVec.ofBool (decide p) &&& BitVec.ofBool (decide q)) = if p ∧ q then 1#32 else 0#32 := by
  by_cases hp : p <;> by_cases hq : q <;> simp [hp, hq]

/-- The word the kernel computes for one cell: the two comparisons' bits, joined and widened. -/
theorem cell_word (w : BitVec 32) (a b : ℕ) (ha : a < 200) (hb : b < 200) :
    BitVec.setWidth 32 (IntOp.andi (IntOp.cmpi .ne w 0#32) (IntOp.cmpi .sle (BitVec.ofNat 32 a) (BitVec.ofNat 32 b)))
      = if w ≠ 0#32 ∧ a ≤ b then 1#32 else 0#32 := by
  have hle : Iff ((BitVec.ofNat 32 a).sle (BitVec.ofNat 32 b) = true) (a ≤ b) := by
    simp only [BitVec.sle, BitVec.toInt_eq_toNat_cond, BitVec.toNat_ofNat, decide_eq_true_eq]
    omega
  have hb : (w != 0#32) = decide (w ≠ 0#32) := by by_cases h : w = 0#32 <;> simp [h]
  have hs : (BitVec.ofNat 32 a).sle (BitVec.ofNat 32 b) = decide (a ≤ b) := Bool.eq_iff_iff.mpr (by simpa using hle)
  simp only [IntOp.andi, IntOp.cmpi, hb, hs]
  exact joined_bits _ _

/-- What one grid point stores, at an index: the same rule on its eight rows. -/
theorem pay_apply (v : Vec F S8x200 .i32) (y : S8x1x200x200.Idx) :
    k1_pay1 (F := F) v y = if v (ix2 (y 0) (y 3)) ≠ 0#32 ∧ (y 3).val ≤ (y 2).val then 1#32 else 0#32 := by
  pointwise [k1_pay1]
  exact cell_word _ _ _ (y 3).isLt (y 2).isLt

/-! ## The body, at one grid point -/

theorem mask_run (c : Dev nD) (i : grid1.Coords) (a1 : Memref sig .tc .vmem S8x200 .i32) (h1 : a1.IsWhole)
    (a2 : Memref sig .tc .vmem S8x1x200x200 .i32) (h2 : a2.IsWhole) (v : Vec F S8x200 .i32) (Q : PUnit → sProp 𝕄) :
    iprop(owns (c : Thread nD τ) a1 fullShare v ∗ (∃ d, owns (c : Thread nD τ) a2 fullShare d)
        ∗ (iprop(owns (c : Thread nD τ) a1 fullShare v ∗ owns (c : Thread nD τ) a2 fullShare (k1_pay1 (F := F) v)) -∗ Q ⟨⟩))
      ⊢ wp frame (wpE (defs₀ (F := F)) 𝒱₀ c none) Set.univ (cc1__mask_kernel i a1 h1 a2 h2) Q := by
  simp only [cc1__mask_kernel_eq_skeleton]; unfold cc1__mask_kernel_skel
  unfold owns
  iintro ⟨⟨%f1, %e1, H1⟩, ⟨%d2, %f2, -, H2⟩, Hk⟩
  sl_exec
  sl_step
  iapply Hk
  isplitl [H1]
  · iexists f1; isplitr; · ipureintro; exact e1
    iexact H1
  iexists _; isplitr; swap; · iexact H2
  ipureintro
  rw [View.readAt_eq_ld, e1, View.ld_unit_zero zero2, View.read_writes_eq_canon _ _ _ (fun y => ⟨_, List.mem_singleton_self _, ?_⟩),
    View.canon_unit_zero zero4]
  show y ∈ (Rect.unit ![0, 0, 0, 0] S8x1x200x200.size inb_S8x1x200x200_S8x1x200x200_0_0_0_0).set
  exact Rect.mem_set_unit.mpr fun a => ⟨by rw [zero4]; exact Nat.zero_le _, by rw [zero4, Nat.zero_add]; exact (y a).isLt⟩

/-! ## The proof data, at an entry valuation -/

abbrev EP : Emb UP (MM F) := ((Emb.inl : Emb UP (UP × Counters)).trans (Emb.inr : Emb (UP × Counters) UU)).trans
  (uEmb (nD := nD) (τ := τ) (sig := sig) (Ix := HIx 1) (Val := Elt F) (Name := ℕ) (U := UU) (Lvl := ℕ)).toEmb

instance EP_landsIn : (EP (F := F)).LandsIn (upEmb : UEmb _ (MM F)) := by unfold EP; infer_instance

variable (V : (c : Dev nD) → (b : Ref sig .tc) → Buf (Elt F) ((c : Thread nD τ).loc b))

/-- The eight rows of indices point `t` works on. -/
abbrev rows (c : Dev nD) (t : Fin cfg1.N) : (cfg1.win 0).block.Idx → Elt F (cfg1.win 0).elt :=
  ((cfg1.win 0).blk t).view.read (Elt F) (V c main_arg0)

/-- The pairs the core may have recorded when it enters: nothing above the level of the call it has made. -/
def recd (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => rows V c t
    | ⟨1, _⟩ => k1_pay1 (F := F) (rows V c t)
  Φ _ := BI.emp
  q _ := fullShare
  owed _ := 0
  recorded _ := recd (F := F) c

def adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_rows (c : Dev nD) (t : Fin cfg1.N) (d : (cfg1.win 0).block.Idx → Elt F (cfg1.win 0).elt) :
    (dat V c).before 0 t d = rows V c t := ((dat V c).before_fetched 0 t (fetch1_0 t) d).trans rfl

theorem defs₀_row (t : Fin cfg1.N) : defs₀ (F := F) .tc cfg1.body (cfg1.bodyArgs t (cfg1.slots t)) = bodyAt1 t := by
  rfl

theorem body_obligation (c : Dev nD) : BodyObligation (dat V c) (defs₀ (F := F)) 𝒱₀ none Set.univ := fun t => by
  rw [bigSep_W1, bigSep_W1, defs₀_row]
  unfold bodyAt1
  rw [show (dat V c).Φ t.succ = (dat V c).Φ t.castSucc from rfl,
    show (dat V c).owesAt none t.succ = (dat V c).owesAt none t.castSucc from rfl]
  iintro ⟨HΦ, Howes, ⟨%d0, H0⟩, H1⟩
  rw [before_rows]
  iapply (mask_run c (grid1.coords t) (win1_0.stage (cfg1.slots t 0)) (hstage1_0 ((cfg1.slots t 0).cast nbuf1_0))
    (win1_1.stage (cfg1.slots t 1)) (hstage1_1 ((cfg1.slots t 1).cast nbuf1_1)) (rows V c t) _)
  isplitl [H0]; · iexact H0
  isplitl [H1]; · icases H1 with ⟨%d, H1⟩; iexists _; iexact H1
  iintro ⟨H0, H1⟩
  isplitl [HΦ]; · iexact HΦ
  isplitl [Howes]; · iexact Howes
  isplitl [H0]; · iexact H0
  iexact H1

/-- The mask's array at the end: its rule at every index. -/
theorem mask_final (c : Dev nD) : (dat V c).arrAt 1 cfg1.N = maskAt (V c main_arg0) := by
  refine (dat V c).arrAt_eq_of_covers 1 _ ((cfg1.win 1).covers_of_indexMap_surj rfl (by decide) fun β => ?_) fun t hf y => ?_
  · have h0 : (β 0).val < 128 := (β 0).isLt
    refine ⟨fun | ⟨0, _⟩ => ⟨(β 0).val, h0⟩ | ⟨_ + 1, h⟩ => absurd h (Nat.not_lt.2 (Nat.le_add_left _ _)), fun a => ?_⟩
    match a with
    | ⟨0, _⟩ => exact (BitVec.toNat_ofNat _ _).trans (Nat.mod_eq_of_lt (lt_trans h0 (by decide)))
    | ⟨1, _⟩ => have h : (β 1).val < 1 := (β 1).isLt
                exact (Nat.lt_one_iff.mp h).symm
    | ⟨2, _⟩ => have h : (β 2).val < 1 := (β 2).isLt
                exact (Nat.lt_one_iff.mp h).symm
    | ⟨3, _⟩ => have h : (β 3).val < 1 := (β 3).isLt
                exact (Nat.lt_one_iff.mp h).symm
  · have e2 : ((((cfg1.win 1).blk t).view.emb y) 2).val = (y 2).val := by
      blk_simp
      rw [show win1_1.index t 2 = 0 from rfl]; omega
    have e3 : ((((cfg1.win 1).blk t).view.emb y) 3).val = (y 3).val := by
      blk_simp
      rw [show win1_1.index t 3 = 0 from rfl]; omega
    have er : rows V c t (ix2 (y 0) (y 3))
        = V c main_arg0 (ix2 ((((cfg1.win 1).blk t).view.emb y) 0) ((((cfg1.win 1).blk t).view.emb y) 3)) := by
      show V c main_arg0 (((cfg1.win 0).blk t).view.emb _) = _
      congr 1
      funext a
      refine Fin.ext ?_
      fin_cases a
      · rfl
      · rfl
    blk_simp
    dsimp only [dat]
    rw [pay_apply, er]
    exact if_congr (and_congr .rfl (by rw [← e2, ← e3])) rfl rfl

/-! ## The region over the core's unscoped buffers -/

/-- The core owes nothing, and what it has recorded sits at or below the level of the call it has made. -/
def idleTc (c : Dev nD) : sProp 𝕄 :=
  iprop(∃ W, ⌜(K (F := F)).WBelow (c : Thread nD τ) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The mask's pallas_call from the unscoped buffers at `V` to them at any `Vp` with the mask's array at its rule and
    every other buffer as `V` has it. -/
def reg (hVp : ∀ c, Vp c main_v6 = maskAt (V c main_arg0)) (hne : ∀ c (b : Ref sig .tc), b ≠ main_v6 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleTc c)
  post c := iprop(unscopedBufs c (Vp c) ∗ idleTc c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold idleTc
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro ⟨-, -, -⟩; iempintro
  hout c := by
    rw [Pipeline.ownSems0_none, show (pdats V 0 c).Φ (Fin.last _) = BI.emp from rfl,
      show Pipeline.scopedRest (pcfgs (F := F) 0).spec c = (BI.emp : sProp 𝕄) from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide)).symm
        · exact (mask_final V c).trans (hVp c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin idleTc
    icases HO with ⟨%W, %hW, HO⟩; iexists W; isplitr
    · ipureintro
      intro p hp
      rcases hW hp with h | ⟨w, s, rfl⟩
      · exact h
      · exact Nat.zero_le _
    iexact HO

/-- The region's step in the main program. -/
theorem region_wp (hVp : ∀ c, Vp c main_v6 = maskAt (V c main_arg0))
    (hne : ∀ c (b : Ref sig .tc), b ≠ main_v6 → Vp c b = V c b) (c : Dev nD)
    (k : PUnit → Prog (TpuEff nD τ sig (Elt F) (ΛP (F := F)) .tc) PUnit) (Q : PUnit → sProp 𝕄) :
    iprop(((boundary (c : Thread nD τ) ∗ unscopedBufs c (Vp c) ∗ idleTc c)
          -∗ wp frame (wpE D ((𝒱₀ : Variants).lift) (c : Thread nD τ) none) Set.univ (k ⟨⟩) Q)
        ∗ boundary (c : Thread nD τ) ∗ (unscopedBufs c (V c) ∗ idleTc c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE D ((𝒱₀ : Variants).lift) (c : Thread nD τ) none) Set.univ (.op (.customCall (Pipeline.entry 0) ()) k) Q :=
  Pipeline.RegionSeg.wp (pcfgs (F := F)) adm (pdats V) none cellOf_inj EP defs₀ 𝒱₀ (K (F := F)).L (K (F := F)).lev
    (reg V Vp hVp hne) c none (fun _ h => nomatch h) k Q

end Cert.Proof.Gather

end
-- ==== Proof.Steps.lean ====
/-
  The gather kernel's transfers, one rule to each: a block of row numbers fetched into a list slot and awaited; a block
  of rows gathered by a list and awaited; the gathered block written out and awaited. Each is stated for any block and
  either slot; the value travels with them: a landed list IS its block of row numbers, a block written out IS the rows
  of the table at them.
-/
module

public import proofs.«01_k».proof.Proof.Setup

@[expose] public section

noncomputable section

namespace Cert.Proof.Gather

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

variable (d : Dev nD) (L : grid0.Coords)

abbrev cV (L : grid0.Coords) : Fin τ.nSC := (L 0).castLE hcore0
abbrev jV (L : grid0.Coords) : Fin τ.nSub := (L 1).castLE hsub0
/-- The tile at `L`. -/
abbrev thr (d : Dev nD) (L : grid0.Coords) : Thread nD τ := V d (cV L) (jV L)

/-- The list as the gather reads it covers its slot. -/
theorem listS_set (p : Fin 2) : (listS p).view.set = (idxS p).view.set := by
  show (((idxS p).view.slice (Rect.unit (s := S1x128) ![0, 0] S1x128.size inb_S1x128_S1x128_0_0)).reshape S128 _).set = _
  rw [View.set_reshape, View.set_slice]
  show _ = Finset.univ.map (idxS p).view.emb
  congr 1

theorem tabV_set : (tabV).view.set = Finset.univ := by
  refine Finset.eq_univ_iff_forall.mpr fun x => ?_
  exact Finset.mem_map.mpr ⟨x, Finset.mem_univ _, tabV_emb x⟩

/-! ## The pieces' assertions -/

variable (ft : Buf (Elt F) (tLoc d)) (fi : Buf (Elt F) (iLoc d)) (f0 : Buf (Elt F) (oLoc d)) (q : PosShare TreeShare)

/-- Block `b` of the row numbers; of the output, at contents `f`; the table, a share of it. -/
abbrev idxPts (b : Fin 50) : sProp 𝕄 := (idxB L b).view.loc (thr d L) ↦[(idxB L b).view.set]{fullShare} fi
abbrev outPts (f : Buf (Elt F) (oLoc d)) (b : Fin 50) : sProp 𝕄 := (outB L b).view.loc (thr d L) ↦[(outB L b).view.set]{fullShare} f
abbrev tabPts : sProp 𝕄 := (tabV).view.loc (thr d L) ↦[(tabV).view.set]{q} ft

/-- List slot `p` idle; row slot `p` idle. -/
abbrev freeI (p : Fin 2) : sProp 𝕄 :=
  iprop((∃ f, (idxS p).view.loc (thr d L) ↦[(idxS p).view.set]{fullShare} f) ∗ semVal (thr d L, SemLoc.dma (semI p)) 0)
abbrev freeR (p : Fin 2) : sProp 𝕄 :=
  iprop((∃ f, (rowS p).view.loc (thr d L) ↦[(rowS p).view.set]{fullShare} f) ∗ semVal (thr d L, SemLoc.dma (semR p)) 0)

/-- List slot `p` holding block `b`'s row numbers; row slot `p` holding block `b`'s rows. -/
abbrev listPts (b : Fin 50) (p : Fin 2) : sProp 𝕄 :=
  iprop(∃ f, ⌜IsList L b p fi f⌝ ∗ ((idxS p).view.loc (thr d L) ↦[(idxS p).view.set]{fullShare} f))
abbrev RowsOf (b : Fin 50) (p : Fin 2) (fr : Buf (Elt F) ((rowS p).view.loc (thr d L))) : Prop :=
  ∀ x ∈ (outB L b).view.set, (outB L b).view.write (Elt F) f0 ((rowS p).view.read (Elt F) fr) Finset.univ x = gat ft fi x
abbrev rowPts (b : Fin 50) (p : Fin 2) : sProp 𝕄 :=
  iprop(∃ f, ⌜RowsOf d L ft fi f0 b p f⌝ ∗ ((rowS p).view.loc (thr d L) ↦[(rowS p).view.set]{fullShare} f))

/-- The bytes a list copy moves, a block's. -/
def NI : ℕ := (idxS 0).view.dmaCredit
def NR : ℕ := (rowS 0).view.dmaCredit

theorem credI (p : Fin 2) : (idxS p).view.dmaCredit = NI := by revert p; decide +kernel
theorem amtI (p : Fin 2) : (idxS p).view.amount (SemLoc.dma (semI p)) = NI := credI p
theorem credR (p : Fin 2) : (rowS p).view.dmaCredit = NR := by revert p; decide +kernel
theorem credO (b : Fin 50) : (outB L b).view.dmaCredit = NR := rfl
theorem amtO (b : Fin 50) (p : Fin 2) : (outB L b).view.amount (SemLoc.dma (semR p)) = NR := credO L b
theorem sumR (p : Fin 2) : ∑ j, ((rowS p).slice (S128x128.rowRect gathers_S1000000x128_S128x128.axis' j) (S128x128.stride_rowRect gathers_S1000000x128_S128x128.axis' j)).view.dmaCredit = NR := by
  revert p; decide +kernel

/-- Block `b`'s list on its way into slot `p`; block `b`'s rows on their way out of slot `p`. -/
abbrev flI (b : Fin 50) (p : Fin 2) : sProp 𝕄 :=
  Transfers.Flight countersEmb (thr d L) (SemLoc.dma (semI p)) (none : HIx 1) NI iprop(listPts d L fi b p ∗ idxPts d L fi b)
abbrev flO (b : Fin 50) (p : Fin 2) : sProp 𝕄 :=
  Transfers.Flight countersEmb (thr d L) (SemLoc.dma (semR p)) (none : HIx 1) NR
    iprop(outPts d L (gat ft fi) b ∗ ∃ f, (rowS p).view.loc (thr d L) ↦[(rowS p).view.set]{fullShare} f)

/-- What a tile owes through the call, with the waits it has recorded. -/
abbrev Ow (O : CellTallies nD τ sig (HIx 1)) (W : Waits sig (HIx 1)) : sProp 𝕄 :=
  iprop(∃ W', ⌜∀ p ∈ W', p ∈ W ∨ p.2 = none⌝ ∗ owes (thr d L) O W')

variable [FloatOps F]
variable {O : CellTallies nD τ sig (HIx 1)} {W : Waits sig (HIx 1)}

local notation "WP" => wp frame (wpE (defs₀ (F := F)) 𝒱₀ (thr d L) none) Set.univ

/-- A list fetch issued. -/
theorem fetch_issue (b : Fin 50) (p : Fin 2) {h1 : (idxB L b).view.WordExact} {h2 : (idxS p).view.WordExact} {h3} {Q : PUnit → sProp 𝕄} :
    iprop(idxPts d L fi b ∗ freeI d L p ∗ (flI d L fi b p -∗ Q ⟨⟩))
      ⊢ WP (Prog.lift (.enqueueDma (idxB L b) (.here (idxS p)) (.dma (semI p)) h1 h2 h3)) Q := by
  iintro ⟨Hi, ⟨⟨%f, Hs⟩, Hv⟩, Hk⟩
  iapply (Transfers.wp_dmaLocal countersEmb 𝒱₀ (thr d L) none (q := fullShare) (fs := fi) (none : HIx 1) NI (amtI p) (by decide +kernel) subset_rfl) $$ [Hi Hs Hv]
  · isplitl [Hi]; · iexact Hi
    isplitl [Hs]; · iexact Hs
    iexact Hv
  iintro Hf
  rw [wp_ret]
  imodintro
  iapply Hk
  iapply (Transfers.Flight_mono ?_) $$ Hf
  iintro ⟨Hd, Hs⟩
  isplitl [Hd]
  · iexists _
    isplitr
    · ipureintro; exact isList_of_copy L b p fi f
    · iexact Hd
  · iexact Hs

/-- A list fetch awaited. -/
theorem fetch_wait (hO : ∀ g, O g none = 0) (b b' : Fin 50) (p : Fin 2) {h1 : (idxB L b').view.WordExact} {h2 : (idxS p).view.WordExact} {Q : PUnit → sProp 𝕄} :
    iprop(levAts (K (F := F)).L (K (F := F)).lev ∗ Ow d L O W ∗ flI d L fi b p
        ∗ (Ow d L O W ∗ listPts d L fi b p ∗ idxPts d L fi b ∗ semVal (thr d L, SemLoc.dma (semI p)) 0 -∗ Q ⟨⟩))
      ⊢ WP (Prog.lift (.waitDma2 (semI p) (idxB L b') (idxS p) h1 h2)) Q := by
  iintro ⟨Hlv, ⟨%W', %hW', HO⟩, Hf, Hk⟩
  ihave Hmw := ((K (F := F)).mayWait_none (thr := thr d L) (SemLoc.dma (semI p)) hO) $$ Hlv
  iapply (Transfers.wp_waitLocalO countersEmb 𝒱₀ (thr d L) none (none : HIx 1) (N := NI) (credI p)) $$ [Hf HO Hmw]
  · isplitl [Hf]; · iexact Hf
    isplitl [HO]; · iexact HO
    iexact Hmw
  iintro ⟨⟨Hl, Hi⟩, Hv, HO⟩
  rw [wp_ret]
  imodintro
  iapply Hk
  isplitl [HO]
  · iexists _
    isplitr
    rotate_left
    · iexact HO
    · ipureintro
      intro p hp
      rcases Finset.mem_insert.1 hp with rfl | hp
      · exact .inr rfl
      · exact hW' p hp
  isplitl [Hl]; · iexact Hl
  isplitl [Hi]; · iexact Hi
  iexact Hv

/-- A block gathered by the list in slot `p`, and awaited: the stream over the list brings the table's rows into row slot `p`. -/
theorem gather (hO : ∀ g, O g none = 0) (hfi : ∀ x, (fi x).toNat < 1000000) (b : Fin 50) (p : Fin 2) {h1 : (tabV).view.WordExact} {h2} {h3} {h4 : (tabV).view.WordExact} {h5 : (rowS p).view.WordExact}
    {Q : PUnit → sProp 𝕄} :
    iprop(levAts (K (F := F)).L (K (F := F)).lev ∗ Ow d L O W ∗ tabPts d L ft q ∗ listPts d L fi b p ∗ (∃ f, (rowS p).view.loc (thr d L) ↦[(rowS p).view.set]{fullShare} f)
        ∗ semVal (thr d L, SemLoc.dma semG) 0
        ∗ (Ow d L O W ∗ tabPts d L ft q ∗ (∃ f, (idxS p).view.loc (thr d L) ↦[(idxS p).view.set]{fullShare} f) ∗ rowPts d L ft fi f0 b p
            ∗ semVal (thr d L, SemLoc.dma semG) 0 -∗ Q ⟨⟩))
      ⊢ WP (SparseCore.enqueueIndirectGather rfl (tabV) (rowS p) gathers_S1000000x128_S128x128 (listS p) rfl semG h1 rfl h2 h3 >>= fun _ =>
          SparseCore.waitIndirectGather semG (tabV) (rowS p) h4 h5) Q := by
  iintro ⟨#Hlv, ⟨%W', %hW', HO⟩, Ht, ⟨%fo, %hl, Hl⟩, ⟨%fr, Hr⟩, Hv, Hk⟩
  ihave Hl' := (Entails.of_eq (show ((idxS p).view.loc (thr d L) ↦[(idxS p).view.set]{fullShare} fo : sProp 𝕄)
    = (listS p).view.loc (thr d L) ↦[(listS p).view.set]{fullShare} fo by rw [listS_set])) $$ Hl
  iapply (SparseCore.wp_indirectGatherLocal countersEmb 𝒱₀ (thr d L) none (q := q) (qo := fullShare) (none : HIx 1) NR (sumR p)
    (by decide +kernel) (isList_inRange hl hfi)) $$ [Ht Hl' Hr Hv]
  · isplitl [Ht]; · iexact Ht
    isplitl [Hr]; · iexact Hr
    isplitl [Hl']; · iexact Hl'
    iexact Hv
  iintro Hf
  ihave Hmw := ((K (F := F)).mayWait_none (thr := thr d L) (SemLoc.dma semG) hO) $$ Hlv
  iapply (Transfers.wp_waitLocalO countersEmb 𝒱₀ (thr d L) none (none : HIx 1) (N := NR) (credR p)) $$ [Hf HO Hmw]
  · isplitl [Hf]; · iexact Hf
    isplitl [HO]; · iexact HO
    iexact Hmw
  iintro ⟨⟨Hr, Ht, Hl⟩, Hv, HO⟩
  rw [wp_ret]
  imodintro
  iapply Hk
  isplitl [HO]
  · iexists _
    isplitr
    rotate_left
    · iexact HO
    · ipureintro
      intro p hp
      rcases Finset.mem_insert.1 hp with rfl | hp
      · exact .inr rfl
      · exact hW' p hp
  isplitl [Ht]; · iexact Ht
  isplitl [Hl]
  · iexists fo
    iapply (Entails.of_eq (show ((listS p).view.loc (thr d L) ↦[(listS p).view.set]{fullShare} fo : sProp 𝕄)
      = (idxS p).view.loc (thr d L) ↦[(idxS p).view.set]{fullShare} fo by rw [listS_set])) $$ Hl
  isplitl [Hr]
  · iexists _
    isplitr
    rotate_left
    · iexact Hr
    · ipureintro; exact gathered L b p ft fi fo hl hfi fr f0
  iexact Hv

/-- A block's write-out issued. -/
theorem out_issue (b : Fin 50) (p : Fin 2) {h1 : (rowS p).view.WordExact} {h2 : (outB L b).view.WordExact} {h3} {Q : PUnit → sProp 𝕄} :
    iprop(outPts d L f0 b ∗ rowPts d L ft fi f0 b p ∗ semVal (thr d L, SemLoc.dma (semR p)) 0 ∗ (flO d L ft fi b p -∗ Q ⟨⟩))
      ⊢ WP (Prog.lift (.enqueueDma (rowS p) (.here (outB L b)) (.dma (semR p)) h1 h2 h3)) Q := by
  iintro ⟨Ho, ⟨%f, %hf, Hs⟩, Hv, Hk⟩
  iapply (Transfers.wp_dmaLocal countersEmb 𝒱₀ (thr d L) none (q := fullShare) (fs := f) (fd := f0) (none : HIx 1) NR (amtO L b p) (by decide +kernel) subset_rfl) $$ [Ho Hs Hv]
  · isplitl [Hs]; · iexact Hs
    isplitl [Ho]; · iexact Ho
    iexact Hv
  iintro Hf
  rw [wp_ret]
  imodintro
  iapply Hk
  iapply (Transfers.Flight_mono ?_) $$ Hf
  iintro ⟨Hd, Hs⟩
  isplitl [Hd]
  · iapply (Entails.of_eq (pointsTo_congr (q := fullShare) hf)) $$ Hd
  · iexists f; iexact Hs

/-- A block's write-out awaited. -/
theorem out_wait (hO : ∀ g, O g none = 0) (b b' : Fin 50) (p : Fin 2) {h1 : (rowS p).view.WordExact} {h2 : (outB L b').view.WordExact} {Q : PUnit → sProp 𝕄} :
    iprop(levAts (K (F := F)).L (K (F := F)).lev ∗ Ow d L O W ∗ flO d L ft fi b p
        ∗ (Ow d L O W ∗ outPts d L (gat ft fi) b ∗ freeR d L p -∗ Q ⟨⟩))
      ⊢ WP (Prog.lift (.waitDma2 (semR p) (rowS p) (outB L b') h1 h2)) Q := by
  iintro ⟨Hlv, ⟨%W', %hW', HO⟩, Hf, Hk⟩
  ihave Hmw := ((K (F := F)).mayWait_none (thr := thr d L) (SemLoc.dma (semR p)) hO) $$ Hlv
  iapply (Transfers.wp_waitLocalO countersEmb 𝒱₀ (thr d L) none (none : HIx 1) (N := NR) (credO L b')) $$ [Hf HO Hmw]
  · isplitl [Hf]; · iexact Hf
    isplitl [HO]; · iexact HO
    iexact Hmw
  iintro ⟨⟨Ho, Hr⟩, Hv, HO⟩
  rw [wp_ret]
  imodintro
  iapply Hk
  isplitl [HO]
  · iexists _
    isplitr
    rotate_left
    · iexact HO
    · ipureintro
      intro p hp
      rcases Finset.mem_insert.1 hp with rfl | hp
      · exact .inr rfl
      · exact hW' p hp
  isplitl [Ho]; · iexact Ho
  isplitl [Hr]; · iexact Hr
  iexact Hv

/-! ## The same, at offsets that come out the slot's or the block's -/

section At

theorem fetch_issue_at (b : Fin 50) (p : Fin 2) {o1 : Fin 2 → ℕ} {o2 : Fin 3 → ℕ} {o3 : Fin 1 → ℕ} {i1 i2 i3}
    (e1 : o1 = ![0, row0 L b.val]) (e2 : o2 = ![p.val, 0, 0]) (e3 : o3 = ![p.val]) {h1 h2 h3} {Q : PUnit → sProp 𝕄} :
    iprop(idxPts d L fi b ∗ freeI d L p ∗ (flI d L fi b p -∗ Q ⟨⟩))
      ⊢ WP (Prog.lift (.enqueueDma ((Memref.whole main_v2_scv).slice (Rect.unit (s := S1x204800) o1 S1x128.size i1) (fun _ => rfl))
          (.here (((Memref.whole cc0_scoped0).slice (Rect.unit (s := S2x1x128) o2 S1x1x128.size i2) (fun _ => rfl)).squeeze S1x128 squeezes_S1x1x128_S1x128))
          (.dma ((cc0_scoped1.slice (Rect.unit (s := S2) o3 S1.size i3)).squeeze S_ squeezes_S1_S_).sem) h1 h2 h3)) Q := by
  subst e1 e2 e3; exact fetch_issue d L fi b p

theorem fetch_wait_at (hO : ∀ g, O g none = 0) (b : Fin 50) (p : Fin 2) {o1 : Fin 2 → ℕ} {o2 : Fin 3 → ℕ} {o3 : Fin 1 → ℕ} {i1 i2 i3}
    (e1 : o1 = ![0, row0 L b.val]) (e2 : o2 = ![p.val, 0, 0]) (e3 : o3 = ![p.val]) {h1 h2} {Q : PUnit → sProp 𝕄} :
    iprop(levAts (K (F := F)).L (K (F := F)).lev ∗ Ow d L O W ∗ flI d L fi b p
        ∗ (Ow d L O W ∗ listPts d L fi b p ∗ idxPts d L fi b ∗ semVal (thr d L, SemLoc.dma (semI p)) 0 -∗ Q ⟨⟩))
      ⊢ WP (Prog.lift (.waitDma2 ((cc0_scoped1.slice (Rect.unit (s := S2) o3 S1.size i3)).squeeze S_ squeezes_S1_S_).sem
          ((Memref.whole main_v2_scv).slice (Rect.unit (s := S1x204800) o1 S1x128.size i1) (fun _ => rfl))
          (((Memref.whole cc0_scoped0).slice (Rect.unit (s := S2x1x128) o2 S1x1x128.size i2) (fun _ => rfl)).squeeze S1x128 squeezes_S1x1x128_S1x128) h1 h2)) Q := by
  subst e1 e2 e3; exact fetch_wait d L fi hO b b p

theorem gather_at (hO : ∀ g, O g none = 0) (hfi : ∀ x, (fi x).toNat < 1000000) (b : Fin 50) (p : Fin 2) {o1 o2 : Fin 3 → ℕ} {i1 i2}
    (e1 : o1 = ![p.val, 0, 0]) (e2 : o2 = ![p.val, 0, 0]) {h1 h2 h3 h4 h5} {α : Type} {k : PUnit → Prog (TpuEff nD τ sig (Elt F) Λ₀ (thr d L).2) α} {Q : α → sProp 𝕄} :
    iprop(levAts (K (F := F)).L (K (F := F)).lev ∗ Ow d L O W ∗ tabPts d L ft q ∗ listPts d L fi b p ∗ (∃ f, (rowS p).view.loc (thr d L) ↦[(rowS p).view.set]{fullShare} f)
        ∗ semVal (thr d L, SemLoc.dma semG) 0
        ∗ (Ow d L O W ∗ tabPts d L ft q ∗ (∃ f, (idxS p).view.loc (thr d L) ↦[(idxS p).view.set]{fullShare} f) ∗ rowPts d L ft fi f0 b p
            ∗ semVal (thr d L, SemLoc.dma semG) 0 -∗ WP (k ⟨⟩) Q))
      ⊢ WP (SparseCore.enqueueIndirectGather rfl (tabV)
            (((Memref.whole cc0_scoped2).slice (Rect.unit (s := S2x128x128) o2 S1x128x128.size i2) (fun _ => rfl)).squeeze S128x128 squeezes_S1x128x128_S128x128)
            gathers_S1000000x128_S128x128
            (((((Memref.whole cc0_scoped0).slice (Rect.unit (s := S2x1x128) o1 S1x1x128.size i1) (fun _ => rfl)).squeeze S1x128 squeezes_S1x1x128_S1x128).slice
              (Rect.unit (s := S1x128) ![0, 0] S1x128.size inb_S1x128_S1x128_0_0) (fun _ => rfl)).squeeze S128 squeezes_S1x128_S128) rfl semG h1 rfl h2 h3 >>= fun _ =>
          SparseCore.waitIndirectGather semG (tabV)
            (((Memref.whole cc0_scoped2).slice (Rect.unit (s := S2x128x128) o2 S1x128x128.size i2) (fun _ => rfl)).squeeze S128x128 squeezes_S1x128x128_S128x128) h4 h5 >>= k) Q := by
  subst e1 e2
  have h := gather (W := W) d L ft fi f0 q hO hfi b p (h1 := h1) (h2 := h2) (h3 := h3) (h4 := h4) (h5 := h5) (Q := fun a => WP (k a) Q)
  rw [wp_bind] at h ⊢
  simp only [wp_bind]
  exact h

theorem out_issue_at (b : Fin 50) (p : Fin 2) {o1 : Fin 2 → ℕ} {o2 : Fin 3 → ℕ} {o3 : Fin 1 → ℕ} {i1 i2 i3}
    (e1 : o1 = ![row0 L b.val, 0]) (e2 : o2 = ![p.val, 0, 0]) (e3 : o3 = ![p.val]) {h1 h2 h3} {Q : PUnit → sProp 𝕄} :
    iprop(outPts d L f0 b ∗ rowPts d L ft fi f0 b p ∗ semVal (thr d L, SemLoc.dma (semR p)) 0 ∗ (flO d L ft fi b p -∗ Q ⟨⟩))
      ⊢ WP (Prog.lift (.enqueueDma (((Memref.whole cc0_scoped2).slice (Rect.unit (s := S2x128x128) o2 S1x128x128.size i2) (fun _ => rfl)).squeeze S128x128 squeezes_S1x128x128_S128x128)
          (.here ((Memref.whole main_v3_scv).slice (Rect.unit (s := S204800x128) o1 S128x128.size i1) (fun _ => rfl)))
          (.dma ((cc0_scoped3.slice (Rect.unit (s := S2) o3 S1.size i3)).squeeze S_ squeezes_S1_S_).sem) h1 h2 h3)) Q := by
  subst e1 e2 e3; exact out_issue d L ft fi f0 b p

theorem out_wait_at (hO : ∀ g, O g none = 0) (b : Fin 50) (p : Fin 2) {o1 : Fin 2 → ℕ} {o2 : Fin 3 → ℕ} {o3 : Fin 1 → ℕ} {i1 i2 i3}
    (e1 : o1 = ![row0 L b.val, 0]) (e2 : o2 = ![p.val, 0, 0]) (e3 : o3 = ![p.val]) {h1 h2} {Q : PUnit → sProp 𝕄} :
    iprop(levAts (K (F := F)).L (K (F := F)).lev ∗ Ow d L O W ∗ flO d L ft fi b p
        ∗ (Ow d L O W ∗ outPts d L (gat ft fi) b ∗ freeR d L p -∗ Q ⟨⟩))
      ⊢ WP (Prog.lift (.waitDma2 ((cc0_scoped3.slice (Rect.unit (s := S2) o3 S1.size i3)).squeeze S_ squeezes_S1_S_).sem
          (((Memref.whole cc0_scoped2).slice (Rect.unit (s := S2x128x128) o2 S1x128x128.size i2) (fun _ => rfl)).squeeze S128x128 squeezes_S1x128x128_S128x128)
          ((Memref.whole main_v3_scv).slice (Rect.unit (s := S204800x128) o1 S128x128.size i1) (fun _ => rfl)) h1 h2)) Q := by
  subst e1 e2 e3; exact out_wait d L ft fi hO b b p

end At

end Cert.Proof.Gather
-- ==== Proof.Trip.lean ====
/-
  One trip of the gather kernel's ring, as what it leaves the next. Before trip `k`: blocks below `k` of the row numbers
  are back and block `k`'s list is on its way into its slot; the output's blocks below `k - 1` hold the gathered rows and
  block `k - 1` is on its way out of the other row slot. The trip fetches block `k + 1`'s list ahead, gathers block `k`,
  issues its write-out and awaits block `k - 1`'s.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks below a trip, and from it on -/

def lo (Φ : Fin 50 → sProp 𝕄) (n : ℕ) : sProp 𝕄 := bigSep (Finset.univ.filter fun b : Fin 50 => b.val < n) Φ
def hi (Φ : Fin 50 → sProp 𝕄) (n : ℕ) : sProp 𝕄 := bigSep (Finset.univ.filter fun b : Fin 50 => n ≤ b.val) Φ

theorem hi_step (Φ : Fin 50 → sProp 𝕄) {n : ℕ} (h : n < 50) : hi Φ n = iprop(Φ ⟨n, h⟩ ∗ hi Φ (n + 1)) := by
  unfold hi
  rw [SparseCore.bigSep_erase' (show (⟨n, h⟩ : Fin 50) ∈ Finset.univ.filter (fun b : Fin 50 => n ≤ b.val) from Finset.mem_filter.mpr ⟨Finset.mem_univ _, le_rfl⟩)]
  congr 2
  ext b
  simp only [Finset.mem_erase, Finset.mem_filter, Finset.mem_univ, true_and, ne_eq, Fin.ext_iff]
  omega

theorem lo_step (Φ : Fin 50 → sProp 𝕄) {n : ℕ} (h : n < 50) : lo Φ (n + 1) = iprop(Φ ⟨n, h⟩ ∗ lo Φ n) := by
  unfold lo
  rw [SparseCore.bigSep_erase' (show (⟨n, h⟩ : Fin 50) ∈ Finset.univ.filter (fun b : Fin 50 => b.val < n + 1) from Finset.mem_filter.mpr ⟨Finset.mem_univ _, Nat.lt_succ_self n⟩)]
  congr 2
  ext b
  simp only [Finset.mem_erase, Finset.mem_filter, Finset.mem_univ, true_and, ne_eq, Fin.ext_iff]
  omega

theorem hi_zero (Φ : Fin 50 → sProp 𝕄) : hi Φ 0 = bigSep Finset.univ Φ := by
  unfold hi; congr 1
theorem lo_all (Φ : Fin 50 → sProp 𝕄) : lo Φ 50 = bigSep Finset.univ Φ := by
  unfold lo; congr 1
theorem lo_zero (Φ : Fin 50 → sProp 𝕄) : lo Φ 0 = iprop(emp) := by
  unfold lo; rw [show (Finset.univ.filter fun b : Fin 50 => b.val < 0) = ∅ by ext b; simp]; exact BI.bigSep_empty
theorem hi_none (Φ : Fin 50 → sProp 𝕄) {n : ℕ} (h : 50 ≤ n) : hi Φ n = iprop(emp) := by
  unfold hi; rw [show (Finset.univ.filter fun b : Fin 50 => n ≤ b.val) = ∅ by ext b; simp; omega]; exact BI.bigSep_empty

theorem par_add_two (n : ℕ) : par (n + 2) = par n := Fin.ext (show (n + 2) % 2 = n % 2 by omega)

variable (d : Dev nD) (L : grid0.Coords)
variable (ft : Buf (Elt F) (tLoc d)) (fi : Buf (Elt F) (iLoc d)) (f0 : Buf (Elt F) (oLoc d)) (q : PosShare TreeShare)

/-- Slot `n`'s list on its way before trip `n`; block `n - 1` on its way out. -/
def inFl (n : ℕ) : sProp 𝕄 := if h : n < 50 then flI d L fi ⟨n, h⟩ (par n) else freeI d L (par n)
def outFl (n : ℕ) : sProp 𝕄 := if h : 0 < n ∧ n ≤ 50 then flO d L ft fi ⟨n - 1, by omega⟩ (par (n + 1)) else freeR d L (par (n + 1))

variable [FloatOps F]
variable {O : CellTallies nD τ sig (HIx 1)} {W : Waits sig (HIx 1)}

local notation "WP" => wp frame (wpE (defs₀ (F := F)) 𝒱₀ (thr d L) none) Set.univ

theorem assume_step {P : Prop} {dc : Decidable P} {α : Type} {k : PLift P → Prog (TpuEff nD τ sig (Elt F) Λ₀ (thr d L).2) α} {Q : α → sProp 𝕄} (h : P) :
    WP (k ⟨h⟩) Q ⊢ WP (Prog.lift (.assume P dc) >>= k) Q :=
  wp_assume 𝒱₀ (thr d L) none Set.univ h

local notation "tabW" => (Memref.whole main_v0_scv : Memref sig Kind.scVector Space.hbm S1000000x128 EltTy.f32)
local notation "idxW" => (Memref.whole main_v2_scv : Memref sig Kind.scVector Space.hbm S1x204800 EltTy.i32)
local notation "outW" => (Memref.whole main_v3_scv : Memref sig Kind.scVector Space.hbm S204800x128 EltTy.f32)
local notation "idxSW" => (Memref.whole cc0_scoped0 : Memref sig Kind.scVector Space.vmem S2x1x128 EltTy.i32)
local notation "rowSW" => (Memref.whole cc0_scoped2 : Memref sig Kind.scVector Space.vmem S2x128x128 EltTy.f32)

set_option maxHeartbeats 2000000 in
/-- The trip's first part: the checks, and the next block's list fetched ahead. -/
theorem part1 (t : Fin k0_t1_loop.trips) {Q : _ → sProp 𝕄} :
    iprop(hi (idxPts d L fi) (t.val + 1) ∗ freeI d L (par (t.val + 1))
        ∗ (hi (idxPts d L fi) (t.val + 2) ∗ inFl d L fi (t.val + 1)
            -∗ Q ⟨chk3_ok t, chk2_ok t, chk1_ok L t, Scf.iv 0#32 1#32 t, Scalar.cmpi .eq (Scf.iv 0#32 1#32 t) 0#32, Scalar.cmpi .eq (Scf.iv 0#32 1#32 t) 49#32,
              v66 L t.val, v71 L t.val, v76 L t.val, (ringWords (t.val + 1)).1, Scalar.cmpi .ne (v66 L t.val) (v71 L t.val)⟩))
      ⊢ WP (k0_part1 (F := F) L tabW (Memref.isWhole_whole _) idxW (Memref.isWhole_whole _) outW (Memref.isWhole_whole _) idxSW (Memref.isWhole_whole _) cc0_scoped1
          rowSW (Memref.isWhole_whole _) cc0_scoped3 cc0_scoped4 (base L) 0#32 1#32 t (w6 t.val) (w7 t.val) (w7 t.val) (w9 t.val) (w10 t.val)) Q := by
  have hn := congrArg Prod.fst (next_words L t)
  simp only at hn
  rw [k0_part1_eq_skeleton]
  unfold k0_part1_skel
  iintro ⟨Hi, Hs, Hk⟩
  iapply (assume_step d L (chk3_ok t))
  iapply (assume_step d L (chk2_ok t))
  iapply (assume_step d L (chk1_ok L t))
  dsimp only
  rw [hn]
  by_cases h : t.val < 49
  · have hc : k0_cond1 L t (w10 t.val) = 1#1 := by rw [cond1_eq, if_pos h]
    rw [dif_pos hc]
    ihave Hi' := (Entails.of_eq (hi_step (idxPts d L fi) (show t.val + 1 < 50 by omega))) $$ Hi
    icases Hi' with ⟨Hb, Hi⟩
    rw [wp_bind]
    iapply (fetch_issue_at d L fi ⟨t.val + 1, by omega⟩ (par (t.val + 1)) (off5_eq L t h) (off4_eq t h) (off6_eq t h))
    isplitl [Hb]; · iexact Hb
    isplitl [Hs]; · iexact Hs
    iintro Hf
    rw [wp_pure]
    imodintro
    iapply Hk
    isplitl [Hi]; · iexact Hi
    unfold inFl
    rw [dif_pos (show t.val + 1 < 50 by omega)]
    iexact Hf
  · have hc : ¬k0_cond1 L t (w10 t.val) = 1#1 := by rw [cond1_eq, if_neg h]; decide
    rw [dif_neg hc, wp_pure]
    imodintro
    iapply Hk
    have := lt50 t
    isplitl [Hi]
    · iapply (Entails.of_eq ((hi_none (idxPts d L fi) (show 50 ≤ t.val + 1 by omega)).trans (hi_none (idxPts d L fi) (show 50 ≤ t.val + 2 by omega)).symm)) $$ Hi
    unfold inFl
    rw [dif_neg (show ¬t.val + 1 < 50 by omega)]
    iexact Hs

set_option maxHeartbeats 2000000 in
/-- The trip's second part: its block's list awaited, its block gathered. -/
theorem part2 (hO : ∀ g, O g none = 0) (hfi : ∀ x, (fi x).toNat < 1000000) (t : Fin k0_t1_loop.trips) (b : Fin 50) (hb : b.val = t.val) {c3 c2 c1 x5 x64 x65 x66 x71 x76 x96} {Q : PUnit → sProp 𝕄} :
    iprop(levAts (K (F := F)).L (K (F := F)).lev ∗ Ow d L O W ∗ flI d L fi b (par t.val) ∗ tabPts d L ft q
        ∗ (∃ f, (rowS (par t.val)).view.loc (thr d L) ↦[(rowS (par t.val)).view.set]{fullShare} f) ∗ semVal (thr d L, SemLoc.dma semG) 0
        ∗ (Ow d L O W ∗ idxPts d L fi b ∗ freeI d L (par t.val) ∗ tabPts d L ft q ∗ rowPts d L ft fi f0 b (par t.val)
            ∗ semVal (thr d L, SemLoc.dma semG) 0 -∗ Q ⟨⟩))
      ⊢ WP (k0_part2 (F := F) L tabW (Memref.isWhole_whole _) idxW (Memref.isWhole_whole _) outW (Memref.isWhole_whole _) idxSW (Memref.isWhole_whole _) cc0_scoped1
          rowSW (Memref.isWhole_whole _) cc0_scoped3 cc0_scoped4 t (w6 t.val) (w7 t.val) (w7 t.val) (w9 t.val) (w10 t.val) c3 c2 c1 x5 x64 x65 x66 x71 x76 x96) Q := by
  rw [k0_part2_eq_skeleton]
  unfold k0_part2_skel
  iintro ⟨#Hlv, HO, Hf, Ht, Hr, Hv, Hk⟩
  dsimp only
  rw [dif_pos (cond2_eq L t), wp_bind]
  iapply (fetch_wait_at d L fi hO b (par t.val) ((off8_eq L t).trans (by rw [hb])) (off7_eq t) (off9_eq t))
  isplitr; · iexact Hlv
  isplitl [HO]; · iexact HO
  isplitl [Hf]; · iexact Hf
  iintro ⟨HO, Hl, Hi, Hs⟩
  simp only [ite_self]
  iapply (gather_at d L ft fi f0 q hO hfi b (par t.val) (off11_eq t) (off10_eq t))
  isplitr; · iexact Hlv
  isplitl [HO]; · iexact HO
  isplitl [Ht]; · iexact Ht
  isplitl [Hl]; · iexact Hl
  isplitl [Hr]; · iexact Hr
  isplitl [Hv]; · iexact Hv
  iintro ⟨HO, Ht, Hl, Hr, Hv⟩
  rw [wp_pure]
  imodintro
  iapply Hk
  isplitl [HO]; · iexact HO
  isplitl [Hi]; · iexact Hi
  isplitl [Hl Hs]
  · isplitl [Hl]; · iexact Hl
    iexact Hs
  isplitl [Ht]; · iexact Ht
  isplitl [Hr]; · iexact Hr
  iexact Hv

/-- What is held before trip `k`, the words carried into it. -/
def ring (O : CellTallies nD τ sig (HIx 1)) (W : Waits sig (HIx 1)) (k : ℕ) (ws : BitVec 32 × BitVec 32 × BitVec 32 × BitVec 32 × BitVec 32) : sProp 𝕄 :=
  iprop(⌜ws = ringWords k⌝ ∗ levAts (K (F := F)).L (K (F := F)).lev ∗ Ow d L O W ∗ tabPts d L ft q ∗ semVal (thr d L, SemLoc.dma semG) 0
    ∗ (lo (idxPts d L fi) k ∗ hi (idxPts d L fi) (k + 1) ∗ inFl d L fi k ∗ freeI d L (par (k + 1)))
    ∗ (lo (outPts d L (gat ft fi)) (k - 1) ∗ hi (outPts d L f0) k ∗ freeR d L (par k) ∗ outFl d L ft fi k))

set_option maxHeartbeats 4000000 in
/-- A trip takes what is held before it to what is held before the next. -/
theorem trip (hO : ∀ g, O g none = 0) (hfi : ∀ x, (fi x).toNat < 1000000) (t : Fin k0_t1_loop.trips) (ws) :
    ring d L ft fi f0 q O W t.val ws
      ⊢ WP (k0_t1_body (F := F) L tabW (Memref.isWhole_whole _) idxW (Memref.isWhole_whole _) outW (Memref.isWhole_whole _) idxSW (Memref.isWhole_whole _) cc0_scoped1
          rowSW (Memref.isWhole_whole _) cc0_scoped3 cc0_scoped4 (base L) t ws) (ring d L ft fi f0 q O W (t.val + 1)) := by
  have ht := lt50 t
  have hw := next_words L t
  have hw1 := congrArg Prod.fst hw
  dsimp only at hw1
  rw [hw1] at hw
  unfold ring
  iintro ⟨%hws, #Hlv, HO, Ht, Hv, ⟨Hilo, Hihi, HinF, HfreeI⟩, ⟨Holo, Hohi, ⟨Hr, Hrv⟩, HoutF⟩⟩
  subst hws
  unfold k0_t1_body ringWords
  dsimp only
  rw [wp_bind]
  iapply (part1 d L fi t)
  isplitl [Hihi]; · iexact Hihi
  isplitl [HfreeI]; · iexact HfreeI
  iintro ⟨Hihi, HinF'⟩
  dsimp only
  rw [wp_bind]
  ihave HinF := (Entails.of_eq (show inFl d L fi t.val = flI d L fi ⟨t.val, ht⟩ (par t.val) from dif_pos ht)) $$ HinF
  iapply (part2 d L ft fi f0 q hO hfi t ⟨t.val, ht⟩ rfl)
  isplitr; · iexact Hlv
  isplitl [HO]; · iexact HO
  isplitl [HinF]; · iexact HinF
  isplitl [Ht]; · iexact Ht
  isplitl [Hr]; · iexact Hr
  isplitl [Hv]; · iexact Hv
  iintro ⟨HO, Hi, HfreeI, Ht, Hr, Hv⟩
  ihave Hilo := (Entails.of_eq (lo_step (idxPts d L fi) ht).symm) $$ [Hi Hilo]
  · isplitl [Hi]; · iexact Hi
    iexact Hilo
  ihave Hohi := (Entails.of_eq (hi_step (outPts d L f0) ht)) $$ Hohi
  icases Hohi with ⟨Ho, Hohi⟩
  rw [dif_pos (cond5_eq L t), wp_bind]
  iapply (out_issue_at d L ft fi f0 ⟨t.val, ht⟩ (par t.val) (off13_eq L t) (off12_eq t) (off14_eq t))
  isplitl [Ho]; · iexact Ho
  isplitl [Hr]; · iexact Hr
  isplitl [Hrv]; · iexact Hrv
  iintro HoutF'
  simp only [ite_self]
  have hpar : par (t.val + 1 + 1) = par t.val := par_add_two t.val
  ihave HoutF' := (Entails.of_eq (show flO d L ft fi ⟨t.val, ht⟩ (par t.val) = outFl d L ft fi (t.val + 1) by
    unfold outFl; rw [dif_pos ⟨Nat.succ_pos _, ht⟩, hpar]; rfl)) $$ HoutF'
  ihave HfreeI := (Entails.of_eq (show freeI d L (par t.val) = freeI d L (par (t.val + 1 + 1)) by rw [hpar])) $$ HfreeI
  by_cases h0 : 0 < t.val
  · have hc : k0_cond7 L t (w10 t.val) = 1#1 := by rw [cond7_eq, if_pos h0]
    rw [dif_pos hc, wp_bind]
    ihave HoutF := (Entails.of_eq (show outFl d L ft fi t.val = flO d L ft fi ⟨t.val - 1, by omega⟩ (par (t.val + 1)) from dif_pos ⟨h0, ht.le⟩)) $$ HoutF
    iapply (out_wait_at d L ft fi hO ⟨t.val - 1, by omega⟩ (par (t.val + 1)) (off16_eq L t h0) (off15_eq t h0) (off17_eq t h0))
    isplitr; · iexact Hlv
    isplitl [HO]; · iexact HO
    isplitl [HoutF]; · iexact HoutF
    iintro ⟨HO, Ho, HfreeR⟩
    ihave Holo := (Entails.of_eq (show iprop(outPts d L (gat ft fi) ⟨t.val - 1, by omega⟩ ∗ lo (outPts d L (gat ft fi)) (t.val - 1))
        = lo (outPts d L (gat ft fi)) (t.val + 1 - 1) from
      ((lo_step (outPts d L (gat ft fi)) (n := t.val - 1) (by omega)).symm.trans (by congr 1; omega)))) $$ [Ho Holo]
    · isplitl [Ho]; · iexact Ho
      iexact Holo
    rw [wp_pure]
    imodintro
    isplitr; · ipureintro; exact hw
    isplitr; · iexact Hlv
    isplitl [HO]; · iexact HO
    isplitl [Ht]; · iexact Ht
    isplitl [Hv]; · iexact Hv
    isplitl [Hilo Hihi HinF' HfreeI]
    · isplitl [Hilo]; · iexact Hilo
      isplitl [Hihi]; · iexact Hihi
      isplitl [HinF']; · iexact HinF'
      iexact HfreeI
    isplitl [Holo]; · iexact Holo
    isplitl [Hohi]; · iexact Hohi
    isplitl [HfreeR]; · iexact HfreeR
    iexact HoutF'
  · have hc : ¬k0_cond7 L t (w10 t.val) = 1#1 := by rw [cond7_eq, if_neg h0]; decide
    rw [dif_neg hc]
    ihave HoutF := (Entails.of_eq (show outFl d L ft fi t.val = freeR d L (par (t.val + 1)) from dif_neg fun h => h0 h.1)) $$ HoutF
    ihave Holo := (Entails.of_eq (show lo (outPts d L (gat ft fi)) (t.val - 1) = lo (outPts d L (gat ft fi)) (t.val + 1 - 1) by congr 1; omega)) $$ Holo
    rw [wp_pure]
    imodintro
    isplitr; · ipureintro; exact hw
    isplitr; · iexact Hlv
    isplitl [HO]; · iexact HO
    isplitl [Ht]; · iexact Ht
    isplitl [Hv]; · iexact Hv
    isplitl [Hilo Hihi HinF' HfreeI]
    · isplitl [Hilo]; · iexact Hilo
      isplitl [Hihi]; · iexact Hihi
      isplitl [HinF']; · iexact HinF'
      iexact HfreeI
    isplitl [Holo]; · iexact Holo
    isplitl [Hohi]; · iexact Hohi
    isplitl [HoutF]; · iexact HoutF
    iexact HoutF'

end Cert.Proof.Gather
-- ==== Proof.Tile.lean ====
/-
  The task of one tile, whole: the first list fetched, the fifty trips (`trip`), the last write-out awaited. It takes the
  tile's blocks of the row numbers and of the output and a share of the table, and brings them back with the output's
  blocks at the gathered rows.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole main_v0_scv : Memref sig Kind.scVector Space.hbm S1000000x128 EltTy.f32)
local notation "idxW" => (Memref.whole main_v2_scv : Memref sig Kind.scVector Space.hbm S1x204800 EltTy.i32)
local notation "outW" => (Memref.whole main_v3_scv : Memref sig Kind.scVector Space.hbm S204800x128 EltTy.f32)
local notation "idxSW" => (Memref.whole cc0_scoped0 : Memref sig Kind.scVector Space.vmem S2x1x128 EltTy.i32)
local notation "rowSW" => (Memref.whole cc0_scoped2 : Memref sig Kind.scVector Space.vmem S2x128x128 EltTy.f32)

variable (d : Dev nD) (L : grid0.Coords)

/-! ## The slots make up their buffers -/

theorem mem_idxS (p : Fin 2) (x : S2x1x128.Idx) : Iff (x ∈ (idxS p).view.set) (x 0 = p) := by
  rw [show (idxS p).view.set = (Rect.unit (s := S2x1x128) ![p.val, 0, 0] S1x1x128.size (idxS_inb p)).set from
    (View.set_reshape _ _).trans (View.set_slice_whole _ _)]
  refine (Rect.mem_set_unit).trans ⟨fun h => Fin.ext ?_, fun h a => ?_⟩
  · have h0 := h 0
    have h1 : p.val ≤ (x 0).val ∧ (x 0).val < p.val + 1 := h0
    omega
  · subst h
    match a with
    | 0 => exact ⟨le_rfl, Nat.lt_succ_self _⟩
    | 1 => exact ⟨Nat.zero_le _, by have := (x 1).isLt; show (x 1).val < 0 + 1; have : (x 1).val < 1 := (x 1).isLt; omega⟩
    | 2 => exact ⟨Nat.zero_le _, by show (x 2).val < 0 + 128; have : (x 2).val < 128 := (x 2).isLt; omega⟩

theorem mem_rowS (p : Fin 2) (x : S2x128x128.Idx) : Iff (x ∈ (rowS p).view.set) (x 0 = p) := by
  rw [show (rowS p).view.set = (Rect.unit (s := S2x128x128) ![p.val, 0, 0] S1x128x128.size (rowS_inb p)).set from
    (View.set_reshape _ _).trans (View.set_slice_whole _ _)]
  refine (Rect.mem_set_unit).trans ⟨fun h => Fin.ext ?_, fun h a => ?_⟩
  · have h0 := h 0
    have h1 : p.val ≤ (x 0).val ∧ (x 0).val < p.val + 1 := h0
    omega
  · subst h
    match a with
    | 0 => exact ⟨le_rfl, Nat.lt_succ_self _⟩
    | 1 => exact ⟨Nat.zero_le _, by show (x 1).val < 0 + 128; have : (x 1).val < 128 := (x 1).isLt; omega⟩
    | 2 => exact ⟨Nat.zero_le _, by show (x 2).val < 0 + 128; have : (x 2).val < 128 := (x 2).isLt; omega⟩

abbrev iBuf : Loc nD τ sig := (thr d L).loc cc0_scoped0
abbrev rBuf : Loc nD τ sig := (thr d L).loc cc0_scoped2

/-- A buffer whose elements fall into two parts by a first coordinate is held whole by holding both parts. -/
theorem two_parts {ℓ : Loc nD τ sig} (Kp : Fin 2 → Finset (Idx ℓ)) (key : Idx ℓ → Fin 2) (hK : ∀ p x, Iff (x ∈ Kp p) (key x = p)) :
    (iprop(∃ f, ℓ ↦{fullShare} f) : sProp 𝕄) = iprop((∃ f, ℓ ↦[Kp 0]{fullShare} f) ∗ ∃ f, ℓ ↦[Kp 1]{fullShare} f) := by
  have hd : ∀ t ∈ (Finset.univ : Finset (Fin 2)), ∀ t' ∈ (Finset.univ : Finset (Fin 2)), t ≠ t' → Disjoint (Kp t) (Kp t') := fun t _ t' _ h =>
    Finset.disjoint_left.mpr fun x hx hx' => h (((hK t x).mp hx).symm.trans ((hK t' x).mp hx'))
  have hc : (Finset.univ : Finset (Fin 2)).biUnion Kp = Finset.univ :=
    Finset.eq_univ_iff_forall.mpr fun x => Finset.mem_biUnion.mpr ⟨key x, Finset.mem_univ _, (hK _ _).mpr rfl⟩
  refine BI.Entails.antisymm (show (iprop(∃ f, ℓ ↦{fullShare} f) : sProp 𝕄) ⊢ iprop((∃ f, ℓ ↦[Kp 0]{fullShare} f) ∗ ∃ f, ℓ ↦[Kp 1]{fullShare} f) from ?_)
    (show (iprop((∃ f, ℓ ↦[Kp 0]{fullShare} f) ∗ ∃ f, ℓ ↦[Kp 1]{fullShare} f) : sProp 𝕄) ⊢ iprop(∃ f, ℓ ↦{fullShare} f) from ?_)
  · iintro ⟨%f, H⟩
    ihave H := (Entails.of_eq (show (ℓ ↦{fullShare} f : sProp 𝕄) = iprop((ℓ ↦[Kp 0]{fullShare} f) ∗ ℓ ↦[Kp 1]{fullShare} f) by
      rw [← hc, pointsTo_biUnion Finset.univ Kp hd, bigSep_univ_two])) $$ H
    icases H with ⟨H0, H1⟩
    isplitl [H0]; · iexists f; iexact H0
    iexists f; iexact H1
  · iintro ⟨⟨%f0, H0⟩, %f1, H1⟩
    ihave H := (pointsTo_biUnion_join (ℓ := ℓ) (q := fullShare) (Val := Elt F) Finset.univ Kp (fun p => if p = 0 then f0 else f1) f0 hd) $$ [H0 H1]
    · rw [bigSep_univ_two]
      isplitl [H0]; · iexact H0
      iexact H1
    icases H with ⟨%g, -, Hg⟩
    iexists g
    rw [hc]
    iexact Hg

theorem idx_slots : (iprop(∃ f, iBuf d L ↦{fullShare} f) : sProp 𝕄)
    = iprop((∃ f, (idxS 0).view.loc (thr d L) ↦[(idxS 0).view.set]{fullShare} f) ∗ ∃ f, (idxS 1).view.loc (thr d L) ↦[(idxS 1).view.set]{fullShare} f) :=
  two_parts (ℓ := iBuf d L) (fun p => (idxS p).view.set) (fun x => x 0) mem_idxS
theorem row_slots : (iprop(∃ f, rBuf d L ↦{fullShare} f) : sProp 𝕄)
    = iprop((∃ f, (rowS 0).view.loc (thr d L) ↦[(rowS 0).view.set]{fullShare} f) ∗ ∃ f, (rowS 1).view.loc (thr d L) ↦[(rowS 1).view.set]{fullShare} f) :=
  two_parts (ℓ := rBuf d L) (fun p => (rowS p).view.set) (fun x => x 0) mem_rowS

/-! ## The tile's own storage -/

abbrev cell (sm : DmaSem sig) : GSem nD τ sig := (thr d L, SemLoc.dma sm)

theorem ownSems0_V :
    ∃ R : sProp 𝕄, (ownSems0 (thr d L) : sProp 𝕄)
      = iprop(semVal (cell d L (semI 0)) 0 ∗ semVal (cell d L (semI 1)) 0 ∗ semVal (cell d L (semR 0)) 0 ∗ semVal (cell d L (semR 1)) 0
          ∗ semVal (cell d L semG) 0 ∗ R) := by
  have mem : ∀ sm : DmaSem sig, (SemLoc.dma sm : SemLoc sig).isScoped .scVector = true → cell d L sm ∈ ownCells (thr d L) := fun sm h =>
    mem_ownCells.mpr ⟨rfl, h⟩
  have ne : ∀ a b : DmaSem sig, a ≠ b → cell d L a ≠ cell d L b := fun a b h e => h (by
    have := congrArg Prod.snd e; exact SemLoc.dma.inj this)
  unfold SparseCore.Cfg.ownSems0
  rw [SparseCore.bigSep_erase' (mem (semI 0) (by decide)),
    SparseCore.bigSep_erase' (Finset.mem_erase.mpr ⟨ne (semI 1) _ (by decide), mem (semI 1) (by decide)⟩),
    SparseCore.bigSep_erase' (Finset.mem_erase.mpr ⟨ne (semR 0) _ (by decide), Finset.mem_erase.mpr ⟨ne (semR 0) _ (by decide), mem (semR 0) (by decide)⟩⟩),
    SparseCore.bigSep_erase' (Finset.mem_erase.mpr ⟨ne (semR 1) _ (by decide), Finset.mem_erase.mpr ⟨ne (semR 1) _ (by decide),
      Finset.mem_erase.mpr ⟨ne (semR 1) _ (by decide), mem (semR 1) (by decide)⟩⟩⟩),
    SparseCore.bigSep_erase' (Finset.mem_erase.mpr ⟨ne semG _ (by decide), Finset.mem_erase.mpr ⟨ne semG _ (by decide),
      Finset.mem_erase.mpr ⟨ne semG _ (by decide), Finset.mem_erase.mpr ⟨ne semG _ (by decide), mem semG (by decide)⟩⟩⟩⟩)]
  exact ⟨_, rfl⟩

theorem ownBufs_V :
    ∃ R : sProp 𝕄, (ownBufs (thr d L) : sProp 𝕄) = iprop((∃ f, iBuf d L ↦{fullShare} f) ∗ (∃ f, rBuf d L ↦{fullShare} f) ∗ R) := by
  unfold SparseCore.Cfg.ownBufs
  rw [SparseCore.bigSep_erase' (SparseCore.Cfg.mem_ownRefs_of_owner (p := Proc.scVector (cV L) (jV L))
    (b := (Proc.scVector (cV L) (jV L)).devRef cc0_scoped0) rfl), SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]
  exact ⟨_, rfl⟩

/-! ## The task -/

variable (ft : Buf (Elt F) (tLoc d)) (fi : Buf (Elt F) (iLoc d)) (f0 : Buf (Elt F) (oLoc d)) (q : PosShare TreeShare)
variable [FloatOps F]
variable {O : CellTallies nD τ sig (HIx 1)} {W : Waits sig (HIx 1)}

local notation "WP" => wp frame (wpE (defs₀ (F := F)) 𝒱₀ (thr d L) none) Set.univ

/-- What a tile takes with it, the output at `f`. -/
def tileRes (f : Buf (Elt F) (oLoc d)) : sProp 𝕄 :=
  iprop(tabPts d L ft q ∗ bigSep Finset.univ (idxPts d L fi) ∗ bigSep Finset.univ (outPts d L f))

/-- The first list fetched. -/
theorem part3 {Q : BitVec 32 → sProp 𝕄} :
    iprop(idxPts d L fi 0 ∗ freeI d L 0 ∗ (flI d L fi 0 0 -∗ Q (base L)))
      ⊢ WP (k0_part3 (F := F) L tabW (Memref.isWhole_whole _) idxW (Memref.isWhole_whole _) outW (Memref.isWhole_whole _) idxSW (Memref.isWhole_whole _) cc0_scoped1
          rowSW (Memref.isWhole_whole _) cc0_scoped3 cc0_scoped4) Q := by
  rw [k0_part3_eq_skeleton]
  unfold k0_part3_skel base
  iintro ⟨Hi, Hs, Hk⟩
  dsimp only
  rw [wp_bind]
  iapply (fetch_issue_at d L fi 0 0 (off2_eq L) (show k0_off1 = ![0, 0, 0] by decide +kernel) (show k0_off3 = ![0] by decide +kernel))
  isplitl [Hi]; · iexact Hi
  isplitl [Hs]; · iexact Hs
  iintro Hf
  rw [wp_pure]
  imodintro
  iapply Hk
  iexact Hf

/-- The fifty trips. -/
theorem part4 (hO : ∀ g, O g none = 0) (hfi : ∀ x, (fi x).toNat < 1000000) {Q : _ → sProp 𝕄} :
    iprop(ring d L ft fi f0 q O W 0 (ringWords 0) ∗ (ring d L ft fi f0 q O W 50 (ringWords 50) -∗ Q ⟨w9 50, w10 50, chk5_ok L, chk4_ok⟩))
      ⊢ WP (k0_part4 (F := F) L tabW (Memref.isWhole_whole _) idxW (Memref.isWhole_whole _) outW (Memref.isWhole_whole _) idxSW (Memref.isWhole_whole _) cc0_scoped1
          rowSW (Memref.isWhole_whole _) cc0_scoped3 cc0_scoped4 (base L)) Q := by
  rw [k0_part4_eq_skeleton]
  unfold k0_part4_skel
  iintro ⟨Hr, Hk⟩
  dsimp only
  rw [wp_bind]
  iapply (Scf.wp_for frame _ Set.univ _ _ _ _ _ _ (fun k ws => ring d L ft fi f0 q O W k ws) (fun t ws => trip d L ft fi f0 q hO hfi t ws))
  isplitl [Hr]; · iexact Hr
  iintro %ws Hr
  ihave Hr := (Entails.of_eq (show ring d L ft fi f0 q O W k0_t1_loop.trips ws = ring d L ft fi f0 q O W 50 ws by rw [trips_eq])) $$ Hr
  ihave %hws := (show ring d L ft fi f0 q O W 50 ws ⊢ iprop(⌜ws = ringWords 50⌝) by
    unfold ring; iintro ⟨%h, -⟩; ipureintro; exact h) $$ Hr
  subst hws
  unfold ringWords
  dsimp only
  iapply (assume_step d L (chk5_ok L))
  iapply (assume_step d L chk4_ok)
  rw [wp_pure]
  imodintro
  iapply Hk
  iexact Hr

set_option maxHeartbeats 2000000 in
theorem tile_body (hF : (K (F := F)).Facts) (hO : ∀ g, O g none = 0) (hfi : ∀ x, (fi x).toNat < 1000000) :
    iprop(levAts (K (F := F)).L (K (F := F)).lev ∗ emp ∗ tileRes d L ft fi q f0
        ∗ scopedBufs (thr d L) ∗ scopedSems0 (thr d L) ∗ owes (thr d L) O W)
      ⊢ WP (cc0_gather_kernel (F := F) L tabW (Memref.isWhole_whole _) idxW (Memref.isWhole_whole _) outW (Memref.isWhole_whole _) idxSW (Memref.isWhole_whole _) cc0_scoped1
          rowSW (Memref.isWhole_whole _) cc0_scoped3 cc0_scoped4)
          fun _ => iprop(tileRes d L ft fi q (gat ft fi) ∗ scopedBufs (thr d L) ∗ scopedSems0 (thr d L) ∗ Ow d L O W) := by
  obtain ⟨RS, hRS⟩ := ownSems0_V (F := F) d L
  obtain ⟨RB, hRB⟩ := ownBufs_V (F := F) d L
  rw [cc0_gather_kernel_eq_skeleton]
  unfold cc0_gather_kernel_skel
  rw [(K (F := F)).scopedBufs_V hF d (cV L) (jV L), SparseCore.Cfg.scopedSems0_V (Val := Elt F) d (cV L) (jV L), hRS, hRB, idx_slots, row_slots]
  unfold tileRes
  iintro ⟨#Hlv, -, ⟨Ht, Hi, Ho⟩, ⟨⟨HI0, HI1⟩, ⟨HR0, HR1⟩, Hbufs⟩, ⟨HsI0, HsI1, HsR0, HsR1, HsG, Hsems⟩, HO⟩
  ihave Hi := (Entails.of_eq ((hi_zero (idxPts d L fi)).symm.trans (hi_step (idxPts d L fi) (n := 0) (by omega)))) $$ Hi
  icases Hi with ⟨Hi0, Hi⟩
  rw [wp_bind]
  iapply (part3 d L fi)
  isplitl [Hi0]; · iexact Hi0
  isplitl [HI0 HsI0]
  · isplitl [HI0]; · iexact HI0
    iexact HsI0
  iintro Hf
  rw [wp_bind]
  iapply (part4 d L ft fi f0 q (O := O) (W := W) hO hfi)
  isplitl [Hf Hi Ho Ht HsG HO HI1 HsI1 HR0 HsR0 HR1 HsR1]
  · unfold ring
    isplitr; · ipureintro; rfl
    isplitr; · iexact Hlv
    isplitl [HO]
    · iexists W
      isplitr; · ipureintro; exact fun p hp => .inl hp
      iexact HO
    isplitl [Ht]; · iexact Ht
    isplitl [HsG]; · iexact HsG
    isplitl [Hf Hi HI1 HsI1]
    · isplitr
      · rw [lo_zero]; iempintro
      isplitl [Hi]; · iexact Hi
      isplitl [Hf]
      · rw [show inFl d L fi 0 = flI d L fi 0 0 from dif_pos (by decide)]; iexact Hf
      isplitl [HI1]; · iexact HI1
      iexact HsI1
    isplitr
    · rw [show 0 - 1 = 0 from rfl, lo_zero]; iempintro
    isplitl [Ho]
    · rw [hi_zero]; iexact Ho
    isplitl [HR0 HsR0]
    · isplitl [HR0]; · iexact HR0
      iexact HsR0
    rw [show outFl d L ft fi 0 = freeR d L 1 from dif_neg (by decide)]
    isplitl [HR1]; · iexact HR1
    iexact HsR1
  rw [show ring d L ft fi f0 q O W 50 (ringWords 50) = iprop(⌜ringWords 50 = ringWords 50⌝ ∗ levAts (K (F := F)).L (K (F := F)).lev ∗ Ow d L O W ∗ tabPts d L ft q
    ∗ semVal (thr d L, SemLoc.dma semG) 0
    ∗ (lo (idxPts d L fi) 50 ∗ hi (idxPts d L fi) 51 ∗ freeI d L 0 ∗ freeI d L 1)
    ∗ (lo (outPts d L (gat ft fi)) 49 ∗ hi (outPts d L f0) 50 ∗ freeR d L 0 ∗ flO d L ft fi 49 1)) from rfl]
  iintro ⟨-, -, HO, Ht, HsG, ⟨Hi, -, ⟨HI0, HsI0⟩, ⟨HI1, HsI1⟩⟩, ⟨Ho, -, ⟨HR0, HsR0⟩, Hf⟩⟩
  dsimp only
  rw [wp_bind]
  iapply (out_wait_at d L ft fi hO 49 1 (off19_eq L) off21_eq off20_eq)
  isplitr; · iexact Hlv
  isplitl [HO]; · iexact HO
  isplitl [Hf]; · iexact Hf
  iintro ⟨HO, Ho49, ⟨HR1, HsR1⟩⟩
  rw [wp_pure]
  imodintro
  isplitl [Ht Hi Ho Ho49]
  · isplitl [Ht]; · iexact Ht
    isplitl [Hi]; · rw [← lo_all]; iexact Hi
    iapply (Entails.of_eq ((lo_step (outPts d L (gat ft fi)) (n := 49) (by omega)).symm.trans (lo_all _)))
    isplitl [Ho49]; · iexact Ho49
    iexact Ho
  isplitl [HI0 HI1 HR0 HR1 Hbufs]
  · isplitl [HI0 HI1]
    · isplitl [HI0]; · iexact HI0
      iexact HI1
    isplitl [HR0 HR1]
    · isplitl [HR0]; · iexact HR0
      iexact HR1
    iexact Hbufs
  isplitl [HsI0 HsI1 HsR0 HsR1 HsG Hsems]
  · isplitl [HsI0]; · iexact HsI0
    isplitl [HsI1]; · iexact HsI1
    isplitl [HsR0]; · iexact HsR0
    isplitl [HsR1]; · iexact HsR1
    isplitl [HsG]; · iexact HsG
    iexact Hsems
  iexact HO

end Cert.Proof.Gather
-- ==== Proof.Deal.lean ====
/-
  The list of row numbers, the output and the table, dealt to the thirty-two tiles and put together again: the blocks of
  all tiles are all of the list and all of the output; the table goes out as a share each.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- One block of one tile. -/
abbrev Blk : Type := Fin 2 × Fin 16 × Fin 50
abbrev Blk.L (t : Blk) : grid0.Coords := coordsV t.1 t.2.1

theorem row0_blk (t : Blk) : row0 t.L t.2.2.val = 128 * (50 * (t.2.1.val + 16 * t.1.val) + t.2.2.val) := rfl

theorem blk_unique {t t' : Blk} {n : ℕ} (h : row0 t.L t.2.2.val ≤ n ∧ n < row0 t.L t.2.2.val + 128)
    (h' : row0 t'.L t'.2.2.val ≤ n ∧ n < row0 t'.L t'.2.2.val + 128) : t = t' := by
  rw [row0_blk] at h h'
  obtain ⟨c, i, b⟩ := t
  obtain ⟨c', i', b'⟩ := t'
  have hc := c.isLt; have hi := i.isLt; have hb := b.isLt
  have hc' := c'.isLt; have hi' := i'.isLt; have hb' := b'.isLt
  dsimp only at h h'
  have e : 50 * (i.val + 16 * c.val) + b.val = 50 * (i'.val + 16 * c'.val) + b'.val := by omega
  have e1 : c.val = c'.val := by omega
  have e2 : i.val = i'.val := by omega
  have e3 : b.val = b'.val := by omega
  rw [Fin.ext e1, Fin.ext e2, Fin.ext e3]

theorem blk_exists {n : ℕ} (hn : n < 204800) : ∃ t : Blk, row0 t.L t.2.2.val ≤ n ∧ n < row0 t.L t.2.2.val + 128 := by
  refine ⟨(⟨n / 128 / 50 / 16, by omega⟩, ⟨n / 128 / 50 % 16, by omega⟩, ⟨n / 128 % 50, by omega⟩), ?_⟩
  rw [row0_blk]
  dsimp only
  omega

theorem mem_outB (L : grid0.Coords) (b : Fin 50) (x : S204800x128.Idx) :
    Iff (x ∈ (outB L b).view.set) (row0 L b.val ≤ (x 0).val ∧ (x 0).val < row0 L b.val + 128) := by
  rw [show (outB L b).view.set = (Rect.unit (s := S204800x128) ![row0 L b.val, 0] S128x128.size (outB_inb L b)).set from View.set_slice_whole _ _]
  refine (Rect.mem_set_unit).trans ⟨fun h => h 0, fun h a => ?_⟩
  match a with
  | ⟨0, _⟩ => exact h
  | ⟨1, _⟩ => exact ⟨Nat.zero_le _, by show (x 1).val < 0 + 128; have h' : (x 1).val < 128 := (x 1).isLt; omega⟩

theorem mem_idxB (L : grid0.Coords) (b : Fin 50) (x : S1x204800.Idx) :
    Iff (x ∈ (idxB L b).view.set) (row0 L b.val ≤ (x 1).val ∧ (x 1).val < row0 L b.val + 128) := by
  rw [show (idxB L b).view.set = (Rect.unit (s := S1x204800) ![0, row0 L b.val] S1x128.size (idxB_inb L b)).set from View.set_slice_whole _ _]
  refine (Rect.mem_set_unit).trans ⟨fun h => h 1, fun h a => ?_⟩
  match a with
  | ⟨0, _⟩ => exact ⟨Nat.zero_le _, by show (x 0).val < 0 + 1; have h' : (x 0).val < 1 := (x 0).isLt; omega⟩
  | ⟨1, _⟩ => exact h

variable (d : Dev nD) (ft : Buf (Elt F) (tLoc d)) (fi : Buf (Elt F) (iLoc d)) (f : Buf (Elt F) (oLoc d))

set_option maxRecDepth 16384 in
theorem out_cover : Finset.biUnion (β := S204800x128.Idx) (Finset.univ : Finset Blk) (fun t => (outB t.L t.2.2).view.set) = Finset.univ := by
  refine Finset.eq_univ_iff_forall.mpr fun (x : S204800x128.Idx) => ?_
  obtain ⟨t, ht⟩ := blk_exists (show (x 0).val < 204800 from (x 0).isLt)
  exact Finset.mem_biUnion.mpr ⟨t, Finset.mem_univ _, (mem_outB _ _ x).mpr ht⟩

theorem out_blocks : (oLoc d ↦{fullShare} f : sProp 𝕄) = bigSep Finset.univ fun t : Blk => oLoc d ↦[(outB t.L t.2.2).view.set]{fullShare} f := by
  rw [← pointsTo_biUnion Finset.univ (ℓ := oLoc d) (fun t : Blk => (outB t.L t.2.2).view.set) fun t _ t' _ hne =>
    Finset.disjoint_left.mpr fun x h h' => hne (blk_unique ((mem_outB _ _ x).mp h) ((mem_outB _ _ x).mp h'))]
  exact congrArg (fun I => (oLoc d ↦[I]{fullShare} f : sProp 𝕄)) out_cover.symm

set_option maxRecDepth 16384 in
theorem idx_cover : Finset.biUnion (β := S1x204800.Idx) (Finset.univ : Finset Blk) (fun t => (idxB t.L t.2.2).view.set) = Finset.univ := by
  refine Finset.eq_univ_iff_forall.mpr fun (x : S1x204800.Idx) => ?_
  obtain ⟨t, ht⟩ := blk_exists (show (x 1).val < 204800 from (x 1).isLt)
  exact Finset.mem_biUnion.mpr ⟨t, Finset.mem_univ _, (mem_idxB _ _ x).mpr ht⟩

theorem idx_blocks : (iLoc d ↦{fullShare} fi : sProp 𝕄) = bigSep Finset.univ fun t : Blk => iLoc d ↦[(idxB t.L t.2.2).view.set]{fullShare} fi := by
  rw [← pointsTo_biUnion Finset.univ (ℓ := iLoc d) (fun t : Blk => (idxB t.L t.2.2).view.set) fun t _ t' _ hne =>
    Finset.disjoint_left.mpr fun x h h' => hne (blk_unique ((mem_idxB _ _ x).mp h) ((mem_idxB _ _ x).mp h'))]
  exact congrArg (fun I => (iLoc d ↦[I]{fullShare} fi : sProp 𝕄)) idx_cover.symm

/-- The table's share of a tile. -/
abbrev tq (c : Fin 2) (i : Fin 16) : PosShare TreeShare := leaf 4 (leaf 1 fullShare c) i

theorem tab_shares : (tLoc d ↦{fullShare} ft : sProp 𝕄)
    = bigSep Finset.univ fun c : Fin 2 => bigSep Finset.univ fun i : Fin 16 => tLoc d ↦{tq c i} ft := by
  rw [pointsTo_leaves Finset.univ ft 1 fullShare]
  exact bigSep_congr fun c _ => pointsTo_leaves Finset.univ ft 4 _

/-- What one SparseCore takes: its sixteen tiles' parts. -/
def coreRes (c : Fin 2) : sProp 𝕄 := bigSep Finset.univ fun i : Fin 16 => tileRes d (coordsV c i) ft fi (tq c i) f

/-- The three arrays whole are the two SparseCores' parts. -/
theorem deal : iprop((tLoc d ↦{fullShare} ft) ∗ (iLoc d ↦{fullShare} fi) ∗ (oLoc d ↦{fullShare} f))
    = (bigSep Finset.univ fun c : Fin 2 => coreRes d ft fi f c : sProp 𝕄) := by
  rw [out_blocks, idx_blocks, tab_shares, bigSep_univ_prod, bigSep_univ_prod, ← bigSep_sep', ← bigSep_sep']
  refine bigSep_congr fun c _ => ?_
  rw [bigSep_univ_prod, bigSep_univ_prod, ← bigSep_sep', ← bigSep_sep']
  unfold coreRes
  refine bigSep_congr fun i _ => ?_
  unfold tileRes tabPts
  rw [tabV_set]

end Cert.Proof.Gather

end
-- ==== Proof.Launch.lean ====
/-
  The run of the whole program on one device's TensorCore: the host operations before the SparseCore call, the call on its
  thirty-two tiles, the host operations after it, the mask's pallas_call, the last host operations. The contents of the
  device's buffers are followed as one valuation through these steps; `run_main` states them at the end.
-/
module

public import proofs.«01_k».proof.Proof.Mask
public import proofs.«01_k».proof.Proof.Deal

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held after)

variable {F : FTy → Type} [FloatOps F] [∀ e, Nonempty (Elt F e)]

local notation "𝕄" => MT nD τ sig (HIx 1) (Elt F) ℕ UU ℕ
local notation "Vl" => Valuation τ sig (Elt F)

local notation "tabW" => (Memref.whole main_v0_scv : Memref sig Kind.scVector Space.hbm S1000000x128 EltTy.f32)
local notation "idxW" => (Memref.whole main_v2_scv : Memref sig Kind.scVector Space.hbm S1x204800 EltTy.i32)
local notation "outW" => (Memref.whole main_v3_scv : Memref sig Kind.scVector Space.hbm S204800x128 EltTy.f32)
local notation "idxSW" => (Memref.whole cc0_scoped0 : Memref sig Kind.scVector Space.vmem S2x1x128 EltTy.i32)
local notation "rowSW" => (Memref.whole cc0_scoped2 : Memref sig Kind.scVector Space.vmem S2x128x128 EltTy.f32)

abbrev 𝒱 : Variants := (𝒱₀ : Variants).lift
abbrev v₀ : 𝒱.V := Sum.inl none

/-! ## What the call's handshakes carry

Stated at any contents of the call's three arrays: the table `ft`, the row numbers `fi`, the output as found `fo`. -/

section Call

variable (ft : (d : Dev nD) → Buf (Elt F) (tLoc d)) (fi : (d : Dev nD) → Buf (Elt F) (iLoc d)) (fo : (d : Dev nD) → Buf (Elt F) (oLoc d))

/-- The call takes its arrays as the host left them and brings them back with the output at the gathered rows. -/
def P : (K (F := F)).Pay (nD := nD) (Val := Elt F) (Name := ℕ) (U := UU) where
  st := fun q d c => match q with | 0 => coreRes d (ft d) (fi d) (fo d) (Fin.cast nCore_zero c)
  dn := fun q d c => match q with | 0 => coreRes d (ft d) (fi d) (gat (ft d) (fi d)) (Fin.cast nCore_zero c)
  go := fun q d c i => match q with
    | 0 => tileRes d (coordsV (Fin.cast nCore_zero c) (Fin.cast nSub_zero i)) (ft d) (fi d) (tq (Fin.cast nCore_zero c) (Fin.cast nSub_zero i)) (fo d)
  td := fun q d c i => match q with
    | 0 => tileRes d (coordsV (Fin.cast nCore_zero c) (Fin.cast nSub_zero i)) (ft d) (fi d) (tq (Fin.cast nCore_zero c) (Fin.cast nSub_zero i)) (gat (ft d) (fi d))
  x := fun _ _ => iprop(emp)

instance tileRes_storable (d : Dev nD) (L : grid0.Coords) (ft fi q f) :
    BI.Storable (upEmb : UEmb _ 𝕄) (tileRes (F := F) d L ft fi q f) := by
  unfold tileRes tabPts idxPts outPts; infer_instance
instance coreRes_storable (d : Dev nD) (ft fi f c) :
    BI.Storable (upEmb : UEmb _ 𝕄) (coreRes (F := F) d ft fi f c) := by
  unfold coreRes
  have h : ∀ i : Fin 16, BI.Storable (upEmb : UEmb _ 𝕄) (tileRes (F := F) d (coordsV c i) ft fi (tq c i) f) :=
    fun i => tileRes_storable d _ ft fi _ f
  exact BI.Storable.bigSep (ι := (upEmb : UEmb _ 𝕄)) _ _

instance P_storable : (P (F := F) ft fi fo).IsStorable where
  st q d c := match q with
    | 0 => coreRes_storable d _ _ _ _
  dn q d c := match q with
    | 0 => coreRes_storable d _ _ _ _
  go q d c i := match q with
    | 0 => tileRes_storable d _ _ _ _ _
  td q d c i := match q with
    | 0 => tileRes_storable d _ _ _ _ _

/-- What the proof asks of the row numbers: every one names a row of the table. -/
def RowsOK : Prop := ∀ (d : Dev nD) (x : S1x204800.Idx), BitVec.toNat (w := 32) (fi d x) < 1000000

theorem defs₀_vector (c : Fin τ.nSC) (s : Fin τ.nSub) :
    defs₀ (F := F) (.scVector c s) 0 ()
      = SparseCore.onTile hcore0 hsub0 (fun c s => cc0_gather_kernel (coordsV c s)
          tabW (Memref.isWhole_whole _) idxW (Memref.isWhole_whole _) outW (Memref.isWhole_whole _)
          idxSW (Memref.isWhole_whole _) cc0_scoped1 rowSW (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hrows : RowsOK fi) : (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ft d) (fi d) (fo d)
    (tq ⟨_, hci.1⟩ ⟨_, hci.2⟩) facts hO (hrows d)).trans (wp_mono frame _ _ fun _ => obl_post)

/-- A tile's number in the call is its number among sixteen, a SparseCore's its number among two. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

attribute [local irreducible] coreRes tileRes gat

/-! What the four kinds of message carry, at a call's number. -/

theorem P_st (d : Dev nD) (c : Fin ((K (F := F)).nCore 0)) :
    (P ft fi fo).st 0 d c = coreRes d (ft d) (fi d) (fo d) (Fin.cast nCore_zero c) := rfl
theorem P_dn (d : Dev nD) (c : Fin ((K (F := F)).nCore 0)) :
    (P ft fi fo).dn 0 d c = coreRes d (ft d) (fi d) (gat (ft d) (fi d)) (Fin.cast nCore_zero c) := rfl
theorem P_go (d : Dev nD) (c : Fin ((K (F := F)).nCore 0)) (i : Fin ((K (F := F)).nSub 0)) :
    (P ft fi fo).go 0 d c i = tileRes d (coordsV (Fin.cast nCore_zero c) (Fin.cast nSub_zero i)) (ft d) (fi d)
      (tq (Fin.cast nCore_zero c) (Fin.cast nSub_zero i)) (fo d) := rfl
theorem P_td (d : Dev nD) (c : Fin ((K (F := F)).nCore 0)) (i : Fin ((K (F := F)).nSub 0)) :
    (P ft fi fo).td 0 d c i = tileRes d (coordsV (Fin.cast nCore_zero c) (Fin.cast nSub_zero i)) (ft d) (fi d)
      (tq (Fin.cast nCore_zero c) (Fin.cast nSub_zero i)) (gat (ft d) (fi d)) := rfl

/-- The sixteen tiles' parts are their SparseCore's. -/
theorem tiles_eq (d : Dev nD) (f : Buf (Elt F) (oLoc d)) (c : Fin 2) :
    (bigSep Finset.univ fun i : Fin ((K (F := F)).nSub 0) =>
      tileRes d (coordsV c (Fin.cast nSub_zero i)) (ft d) (fi d) (tq c (Fin.cast nSub_zero i)) f)
      = (coreRes d (ft d) (fi d) f c : sProp 𝕄) := by
  rw [coreRes]; exact bigSep_tasks (F := F) fun i => tileRes d (coordsV c i) (ft d) (fi d) (tq c i) f

theorem go_eq (d : Dev nD) (c : Fin ((K (F := F)).nCore 0)) :
    (bigSep Finset.univ fun i : Fin ((K (F := F)).nSub 0) => (P ft fi fo).go 0 d c i)
      = coreRes d (ft d) (fi d) (fo d) (Fin.cast nCore_zero c) := by
  rw [← tiles_eq]; exact bigSep_congr fun i _ => P_go ft fi fo d c i
theorem td_eq (d : Dev nD) (c : Fin ((K (F := F)).nCore 0)) :
    (bigSep Finset.univ fun i : Fin ((K (F := F)).nSub 0) => (P ft fi fo).td 0 d c i)
      = coreRes d (ft d) (fi d) (gat (ft d) (fi d)) (Fin.cast nCore_zero c) := by
  rw [← tiles_eq]; exact bigSep_congr fun i _ => P_td ft fi fo d c i

theorem vecSplit : (K (F := F)).VecSplit' (P ft fi fo) 0 := by
  intro d c
  rw [go_eq, td_eq, P_st, P_dn]
  iintro H; imodintro
  isplitl [H]; · iexact H
  iintro H; iexact H

/-! ## The launch element: the handshakes' rounds and the mask pipeline's -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals a TensorCore for the mask's pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- There is one pipeline. -/
theorem bigSep_only (Φ : Fin 1 → Dev nD → sProp 𝕄) :
    (bigSep Finset.univ fun d : Dev nD => bigSep Finset.univ fun p : Fin 1 => Φ p d) = bigSep Finset.univ fun d : Dev nD => Φ 0 d :=
  bigSep_congr fun d _ => bigSep_univ_of_subsingleton (Φ := fun p => Φ p d) (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P ft fi fo).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP := (show BI.own (((Emb.inl : Emb UP (UP × Counters)).trans (embR : Emb (UP × Counters) (MM F))) _) ⊢ BI.own (EP (F := F) _) from BI.Entails.refl _) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_only (fun p d => Pipeline.cellsGhost (Pipeline.pin (pcfgs (F := F)) adm) EP p d))); iexact Hg
    · iapply (Entails.of_eq (bigSep_only (fun p d => Pipeline.toksInit (Pipeline.pin (pcfgs (F := F)) adm) EP p d))); iexact Ht
  rw [show (bigSep Finset.univ fun thr : Thread nD τ => bigSep Finset.univ fun q : Fin 1 => (P (F := F) ft fi fo).x q thr) = bigSep Finset.univ fun _ => iprop(emp) from
    bigSep_congr fun _ _ => bigSep_univ_of_subsingleton (0 : Fin 1)]
  iapply (Entails.of_eq (bigSep_emp_const _).symm)
  iempintro

/-- The two SparseCores' parts, before and after. -/
theorem st0_eq (d : Dev nD) : (bigSep Finset.univ fun c : Fin ((K (F := F)).nCore 0) => (P ft fi fo).st 0 d c)
    = (bigSep Finset.univ fun c : Fin 2 => coreRes d (ft d) (fi d) (fo d) c : sProp 𝕄) := by
  rw [← bigSep_cores (F := F)]; exact bigSep_congr fun c _ => P_st ft fi fo d c
theorem dn0_eq (d : Dev nD) : (bigSep Finset.univ fun c : Fin ((K (F := F)).nCore 0) => (P ft fi fo).dn 0 d c)
    = (bigSep Finset.univ fun c : Fin 2 => coreRes d (ft d) (fi d) (gat (ft d) (fi d)) c : sProp 𝕄) := by
  rw [← bigSep_cores (F := F)]; exact bigSep_congr fun c _ => P_dn ft fi fo d c

end Call

attribute [local irreducible] coreRes tileRes gat

/-! ## The host operations, and the contents between them -/

/-- Before the SparseCore call: the table's rows widened to 128 lanes, the row numbers laid out in one line. -/
def opsA : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S1000000x64, .f32⟩) main_call0.v0 main_call0.v1
    (fun x v => pad S1000000x128 ![0, 0] ![0, 64] ![0, 0] x v pads_S1000000x64_S1000000x128_000_0640 h_S_),
   StableHlo.reshape main_arg0 main_v1 (rfl : (.i32 : EltTy) = .i32) shapeCasts_S1024x200_S204800,
   StableHlo.reshape main_v1 main_v2 (rfl : (.i32 : EltTy) = .i32) shapeCasts_S204800_S1x204800]

/-- After it: the first 64 lanes of every row, in the shape of the result. -/
def opsB : List (HloOp τ sig (Elt F)) :=
  [StableHlo.unary main_v3 main_v4 ((extractStridedSlice S204800x64 ![0, 0] · slices_S204800x128_S204800x64_0_0) :
      (⟨S204800x128, .f32⟩ : BufTy).Contents (Elt F) → (⟨S204800x64, .f32⟩ : BufTy).Contents (Elt F)),
   StableHlo.reshape main_v4 main_v5 (rfl : (.f32 : EltTy) = .f32) shapeCasts_S204800x64_S1024x200x64]

/-- After the mask's call: the words of the mask as bits. -/
def opsC : List (HloOp τ sig (Elt F)) :=
  [StableHlo.nullary main_c_0 (constantI S_ 32 0#32),
   StableHlo.unary main_c_0 main_v7 (broadcastInDim S1024x1x200x200 ![] bcast_S_S1024x1x200x200 :
      (⟨S_, .i32⟩ : BufTy).Contents (Elt F) → (⟨S1024x1x200x200, .i32⟩ : BufTy).Contents (Elt F)),
   StableHlo.binary main_v6 main_v7 main_v8 (cmpi .ne :
      (⟨S1024x1x200x200, .i32⟩ : BufTy).Contents (Elt F) → (⟨S1024x1x200x200, .i32⟩ : BufTy).Contents (Elt F)
        → (⟨S1024x1x200x200, .i1⟩ : BufTy).Contents (Elt F)),
   StableHlo.unary main_v8 main_v9 (id : (⟨S1024x1x200x200, .i1⟩ : BufTy).Contents (Elt F)
        → (⟨S1024x1x200x200, .i1⟩ : BufTy).Contents (Elt F))]

theorem main_eq (d : Dev nD) : main (F := F) d
    = (StableHlo.seq opsA >>= fun _ => (K (F := F)).run d 0 >>= fun _ => StableHlo.seq opsB >>= fun _ =>
        SparseCore.liftProg (.op (.customCall (Pipeline.entry 0) ()) .ret) >>= fun _ => StableHlo.seq opsC >>= fun _ => pure ⟨⟩) := by
  rfl

variable (m : (ℓ : Loc nD τ sig) → Buf (Elt F) ℓ) (ρ : Dev nD → PrngReg)

def V0 (d : Dev nD) : Vl := fun b => m (d, b)
@[irreducible] def V1 (d : Dev nD) : Vl := after opsA (V0 m d)
abbrev ftab (d : Dev nD) : Buf (Elt F) (tLoc d) := V1 m d (Proc.devRef .tc main_v0)
abbrev fidx (d : Dev nD) : Buf (Elt F) (iLoc d) := V1 m d (Proc.devRef .tc main_v2)
abbrev fold (d : Dev nD) : Buf (Elt F) (oLoc d) := V1 m d (Proc.devRef .tc main_v3)
abbrev fnew (d : Dev nD) : Buf (Elt F) (oLoc d) := gat (ftab m d) (fidx m d)
@[irreducible] def V2 (d : Dev nD) : Vl := Function.update (V1 m d) (Proc.devRef .tc main_v3) (fnew m d)
@[irreducible] def V3 (d : Dev nD) : Vl := after opsB (V2 m d)
@[irreducible] def V4 (d : Dev nD) : Vl := Function.update (V3 m d) (Proc.devRef .tc main_v6) (maskAt (V3 m d (Proc.devRef .tc main_arg0)))
@[irreducible] def V5 (d : Dev nD) : Vl := after opsC (V4 m d)

theorem bufsA : ∀ op ∈ opsA (F := F), op.bufs ⊆ Pipeline.ucRefs τ sig := fun op hop => Pipeline.sub_ucRefs op <|
  List.forall_iff_forall_mem.mp (show (opsA (F := F)).Forall fun op => op.bufs ⊆ StableHlo.tcRefs τ sig from
    ⟨StableHlo.nullary_bufs_sub _ _ _, StableHlo.unary_bufs_sub _ _ _ _ _, StableHlo.binary_bufs_sub _ _ _ _ _ _ _,
      StableHlo.reshape_bufs_sub _ _ _ _ _ _, StableHlo.reshape_bufs_sub _ _ _ _ _ _⟩) op hop

theorem bufsB : ∀ op ∈ opsB (F := F), op.bufs ⊆ Pipeline.ucRefs τ sig := fun op hop => Pipeline.sub_ucRefs op <|
  List.forall_iff_forall_mem.mp (show (opsB (F := F)).Forall fun op => op.bufs ⊆ StableHlo.tcRefs τ sig from
    ⟨StableHlo.unary_bufs_sub _ _ _ _ _, StableHlo.reshape_bufs_sub _ _ _ _ _ _⟩) op hop

theorem bufsC : ∀ op ∈ opsC (F := F), op.bufs ⊆ Pipeline.ucRefs τ sig := fun op hop => Pipeline.sub_ucRefs op <|
  List.forall_iff_forall_mem.mp (show (opsC (F := F)).Forall fun op => op.bufs ⊆ StableHlo.tcRefs τ sig from
    ⟨StableHlo.nullary_bufs_sub _ _ _, StableHlo.unary_bufs_sub _ _ _ _ _, StableHlo.binary_bufs_sub _ _ _ _ _ _ _,
      StableHlo.unary_bufs_sub _ _ _ _ _⟩) op hop

theorem freshA : ∀ op ∈ opsA (F := F), op.fresh = ∅ := List.forall_iff_forall_mem.mp (StableHlo.forall_fresh_of_map rfl)
theorem freshB : ∀ op ∈ opsB (F := F), op.fresh = ∅ := List.forall_iff_forall_mem.mp (StableHlo.forall_fresh_of_map rfl)
theorem freshC : ∀ op ∈ opsC (F := F), op.fresh = ∅ := List.forall_iff_forall_mem.mp (StableHlo.forall_fresh_of_map rfl)

/-! ## The three arrays of the SparseCore call among the device's buffers -/

abbrev arrs : Finset (DevRef τ sig) :=
  {Proc.devRef .tc main_v0, Proc.devRef .tc main_v2, Proc.devRef .tc main_v3}

theorem arrs_sub : arrs ⊆ Pipeline.ucRefs τ sig := by
  intro b hb
  simp only [arrs, Finset.mem_insert, Finset.mem_singleton] at hb
  rcases hb with rfl | rfl | rfl <;> exact Pipeline.devRef_mem_ucRefs rfl

theorem held_arrs (d : Dev nD) (W : Vl) : (held (d.tc : Thread nD τ) arrs W : sProp 𝕄)
    = iprop((tLoc d ↦{fullShare} W (Proc.devRef .tc main_v0)) ∗ (iLoc d ↦{fullShare} W (Proc.devRef .tc main_v2))
        ∗ (oLoc d ↦{fullShare} W (Proc.devRef .tc main_v3))) := by
  unfold held arrs
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

/-- The buffers before the call, its three arrays dealt to the two SparseCores. -/
theorem held_before (d : Dev nD) : (held (d.tc : Thread nD τ) (Pipeline.ucRefs τ sig) (V1 m d) : sProp 𝕄)
    = iprop((bigSep Finset.univ fun c : Fin 2 => coreRes d (ftab m d) (fidx m d) (fold m d) c)
        ∗ held (d.tc : Thread nD τ) (Pipeline.ucRefs τ sig \ arrs) (V1 m d)) := by
  rw [StableHlo.held_sub_split _ arrs_sub, held_arrs, deal]

/-- And after it. -/
theorem held_after (d : Dev nD) : (held (d.tc : Thread nD τ) (Pipeline.ucRefs τ sig) (V2 m d) : sProp 𝕄)
    = iprop((bigSep Finset.univ fun c : Fin 2 => coreRes d (ftab m d) (fidx m d) (fnew m d) c)
        ∗ held (d.tc : Thread nD τ) (Pipeline.ucRefs τ sig \ arrs) (V1 m d)) := by
  have ht : V2 m d (Proc.devRef .tc main_v0) = ftab m d := by
    unfold V2; exact Function.update_of_ne (StableHlo.devRef_ne_of_ne (by decide)) _ _
  have hi : V2 m d (Proc.devRef .tc main_v2) = fidx m d := by
    unfold V2; exact Function.update_of_ne (StableHlo.devRef_ne_of_ne (by decide)) _ _
  have ho : V2 m d (Proc.devRef .tc main_v3) = fnew m d := by unfold V2; exact Function.update_self _ _ _
  rw [StableHlo.held_sub_split _ arrs_sub, held_arrs, ht, hi, ho, deal]
  refine congrArg (fun X : sProp 𝕄 => iprop((bigSep Finset.univ fun c : Fin 2 => coreRes d (ftab m d) (fidx m d) (fnew m d) c) ∗ X))
    (StableHlo.held_congr _ fun b hb => ?_)
  unfold V2; refine Function.update_of_ne ?_ _ _
  rintro rfl
  exact (Finset.mem_sdiff.mp hb).2 (by simp [arrs])

/-! ## @main on the TensorCore -/

/-- After the one call a TensorCore owes nothing more: what it owes taken out of the record of the calls made. -/
theorem tcSt_idle (d : Dev nD) : ((K (F := F)).tcSt EH d 1 : sProp 𝕄)
    ⊢ iprop(idleTc d ∗ (idleTc d -∗ (K (F := F)).tcSt EH d 1)) := by
  unfold SparseCore.Cfg.tcSt idleTc
  rw [(K (F := F)).Otc_end d le_rfl]
  iintro ⟨HO, Hrest⟩
  isplitl [HO]; · iexact HO
  iintro HO
  isplitl [HO]; · iexact HO
  iexact Hrest

abbrev FIN (d : Dev nD) : sProp 𝕄 := held (d.tc : Thread nD τ) (Pipeline.ucRefs τ sig) (V5 m d)

theorem V1_eq (d : Dev nD) : after opsA (V0 m d) = V1 m d := by unfold V1; rfl
theorem V3_eq (d : Dev nD) : after opsB (V2 m d) = V3 m d := by unfold V3; rfl
theorem V5_eq (d : Dev nD) : after opsC (V4 m d) = V5 m d := by unfold V5; rfl
theorem V4_mask (d : Dev nD) : V4 m d (Proc.devRef .tc main_v6) = maskAt (V3 m d (Proc.devRef .tc main_arg0)) := by
  unfold V4; exact Function.update_self _ _ _
theorem V4_ne (d : Dev nD) {b : Ref sig .tc} (h : b ≠ main_v6) : V4 m d (Proc.devRef .tc b) = V3 m d (Proc.devRef .tc b) := by
  unfold V4; exact Function.update_of_ne (StableHlo.devRef_ne_of_ne h) _ _

/-- The launch's buffers, as one valuation. -/
theorem start_held (d : Dev nD) : (unscopedBufs d (fun b => m ((SparseCore.T d).loc b)) : sProp 𝕄)
    = held (d.tc : Thread nD τ) (Pipeline.ucRefs τ sig) (V0 m d) := by
  rw [← Pipeline.unscopedBufs_held]; rfl

set_option backward.isDefEq.respectTransparency.types false in
theorem hmain (κ : GSem nD τ sig → ℕ) (d : Dev nD) :
    iprop((K (F := F)).ctx EH (P (ftab m) (fidx m) (fold m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, start_held]
  iintro ⟨#Hctx, Hst, ⟨Hb, Hh, Hts, -⟩, Hcg, Hti⟩
  iapply (StableHlo.wp_seq 𝒱 none Set.univ d (Pipeline.ucRefs τ sig) _ opsA bufsA freshA (V0 m d)) $$ [Hb Hh]
  · isplitl [Hb] <;> iassumption
  rw [V1_eq]
  iintro ⟨Hb, Hh⟩
  ihave Hh := (Entails.of_eq (held_before m d)) $$ Hh
  icases Hh with ⟨Ha, Hrest⟩
  rw [wp_bind]
  iapply ((K (F := F)).wp_run (D (F := F)) 𝒱 (EH := EH) (P := P (ftab m) (fidx m) (fold m)) κ d 0)
  isplitr; · iexact Hctx
  isplitl [Hst]; · iexact Hst
  isplitl [Ha]; · rw [st0_eq]; iexact Ha
  iintro ⟨Hst, Hdn⟩
  ihave Hdn' := (Entails.of_eq (dn0_eq (ftab m) (fidx m) (fold m) d)) $$ Hdn
  ihave Hh := (Entails.of_eq (held_after m d).symm) $$ [Hdn' Hrest]
  · isplitl [Hdn'] <;> iassumption
  iapply (StableHlo.wp_seq 𝒱 none Set.univ d (Pipeline.ucRefs τ sig) _ opsB bufsB freshB (V2 m d)) $$ [Hb Hh]
  · isplitl [Hb] <;> iassumption
  rw [V3_eq]
  iintro ⟨Hb, Hh⟩
  ihave Hst := (show (K (F := F)).tcSt EH d ((0 : Fin 1).val + 1) ⊢ ((K (F := F)).tcSt EH d 1 : sProp 𝕄) from BI.Entails.refl _) $$ Hst
  ihave Hs := (tcSt_idle d) $$ Hst
  icases Hs with ⟨Hidle, Hback⟩
  ihave Hlev := (SparseCore.Cfg.ctx_levAts κ) $$ Hctx
  rw [wp_bind]
  iapply ((K (F := F)).wp_liftProg (D (F := F)) 𝒱 (T d) Set.univ none)
  iapply (region_wp (fun c b => V3 m c b) (fun c b => V4 m c b) (fun c => V4_mask m c)
    (fun c b hb => V4_ne m c hb) d)
  isplitl [Hback Hts]
  · iintro ⟨Hb, Hu, Hidle⟩
    rw [wp_ret]
    imodintro
    ihave Hst := Hback $$ Hidle
    ihave Hh := (Entails.of_eq (Pipeline.unscopedBufs_held d (V4 m d))) $$ Hu
    iapply (StableHlo.wp_seq 𝒱 none Set.univ d (Pipeline.ucRefs τ sig) _ opsC bufsC freshC (V4 m d)) $$ [Hb Hh]
    · isplitl [Hb] <;> iassumption
    rw [V5_eq]
    iintro ⟨Hb, Hh⟩
    rw [wp_pure]
    imodintro
    isplitl [Hst]; · iexact Hst
    isplitl [Hh]; · iexact Hh
    isplitl [Hb] <;> iassumption
  isplitl [Hb]; · iexact Hb
  isplitl [Hh Hidle]
  · isplitl [Hh]
    · iapply (Entails.of_eq (Pipeline.unscopedBufs_held d (V3 m d)).symm); iexact Hh
    · iexact Hidle
  isplitl [Hlev]; · iexact Hlev
  isplitl [Hcg] <;> iassumption

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all (Pipeline.ucRefs τ sig) (fun b => ((d.tc : Thread nD τ).1, b)) (V5 m d) s') $$ [Hh HSI]
  · isplitl [Hh] <;> iassumption
  icases Hr with ⟨%h, -⟩
  ipureintro; exact h

/-- The run: every buffer of a device that outlives a call ends at `V5`, and every counter at zero. -/
def QC : PUnit × MemSt nD τ sig (Elt F) → Prop := fun r =>
  (∀ c : Dev nD, ∀ b : Ref sig .tc, b.isScoped = false → r.2.mem ((c.tc : Thread nD τ).loc b) = V5 m c (Proc.devRef .tc b))
    ∧ r.2.sem = fun _ => 0

theorem run_main (hrows : RowsOK (fidx m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ftab m) (fidx m) (fold m)) (A := ∅) facts v₀
    (fun q hq => match q with | 0 => nomatch hq)
    (fun q _ => match q with | 0 => tileObl _ _ _ hrows)
    (fun q _ => match q with | 0 => SparseCore.Cfg.VecSplit.of_plain (vecSplit _ _ _))
    m ρ main (fun d => G d) (FIN m) (u₀ (F := F)) (sep_elim_left.trans (hu₀ _ _ _)) (hmain m ρ) (fq m) (hfin m) (QC m)
    (fun _ h hz => ⟨fun c b hb => h c _ (Pipeline.devRef_mem_ucRefs hb), hz⟩)

end Cert.Proof.Gather

end
-- ==== Proof.Ends.lean ====
/-
  What the run leaves in the four buffers the claims speak of: the two arguments as they were, the two results as composed
  terms of the arguments.
-/
module

public import proofs.«01_k».proof.Proof.Launch
public import Idealize.ShloMosaic.Lib.StableHlo.Run

@[expose] public section

noncomputable section

namespace Cert.Proof.Gather

open Cert.KernelIdeal Cert.KernelIdeal.Gen
open Idealize.ShloMosaic
open Idealize.ShloMosaic.StableHlo
open Idealize.ShloMosaic.TcCoe

variable {F : FTy → Type} [FloatOps F] [∀ e, Nonempty (Elt F e)]
variable (m : (ℓ : Loc nD τ sig) → Buf (Elt F) ℓ)

/-- The arguments of device `d` at launch. -/
abbrev a0 (d : Dev nD) : S1024x200.Idx → BitVec 32 := m ((d.tc : Thread nD τ).loc main_arg0)
abbrev a1 (d : Dev nD) : S1000000x64.Idx → F .f32 := m ((d.tc : Thread nD τ).loc main_arg1)

/-- The table the SparseCore call reads: the argument's rows widened to 128 lanes. -/
def wide (x : S1000000x64.Idx → F .f32) : S1000000x128.Idx → F .f32 :=
  pad S1000000x128 ![0, 0] ![0, 64] ![0, 0] x (sitofp .f32 (constantI S_ 32 0#32)) pads_S1000000x64_S1000000x128_000_0640 h_S_

/-- The row numbers it reads: the argument's words in one line. -/
def line (x : S1024x200.Idx → BitVec 32) : S1x204800.Idx → BitVec 32 :=
  shapeCast S1x204800 (shapeCast S204800 x shapeCasts_S1024x200_S204800) shapeCasts_S204800_S1x204800

/-- The first result from the rows the call gathered. -/
def narrow (f : S204800x128.Idx → F .f32) : S1024x200x64.Idx → F .f32 :=
  shapeCast S1024x200x64 (extractStridedSlice S204800x64 ![0, 0] f slices_S204800x128_S204800x64_0_0) shapeCasts_S204800x64_S1024x200x64

/-- The second result from the words the mask's call wrote. -/
def bits (w : S1024x1x200x200.Idx → BitVec 32) : S1024x1x200x200.Idx → BitVec 1 :=
  id (cmpi .ne w (broadcastInDim S1024x1x200x200 ![] bcast_S_S1024x1x200x200 (constantI S_ 32 0#32)))

theorem ftab_eq (d : Dev nD) : ftab m d = wide (a1 m d) := by
  rw [ftab, ← V1_eq]
  delta opsA
  simp only [TRef.binary, TRef.unary, TRef.toBuf, TRef.ofBuf, cast_eq]
  after_results
  rfl

theorem fidx_eq (d : Dev nD) : fidx m d = line (a0 m d) := by
  rw [fidx, ← V1_eq]
  delta opsA
  simp only [TRef.binary, TRef.unary, TRef.toBuf, TRef.ofBuf, cast_eq]
  after_results
  rfl

theorem V1_arg (d : Dev nD) (b : Ref sig .tc) (h : b = main_arg0 ∨ b = main_arg1) : V1 m d (Proc.devRef .tc b) = m ((d.tc : Thread nD τ).loc b) := by
  rw [← V1_eq]
  delta opsA
  simp only [TRef.binary, TRef.unary, TRef.toBuf, TRef.ofBuf, cast_eq]
  rcases h with rfl | rfl <;> (after_results; rfl)

theorem V3_arg (d : Dev nD) (b : Ref sig .tc) (h : b = main_arg0 ∨ b = main_arg1) : V3 m d (Proc.devRef .tc b) = m ((d.tc : Thread nD τ).loc b) := by
  rw [← V3_eq, ← V1_arg m d b h]
  delta opsB
  rcases h with rfl | rfl <;>
    (after_results; unfold V2; exact Function.update_of_ne (devRef_ne_of_ne (by decide)) _ _)

theorem V5_arg (d : Dev nD) (b : Ref sig .tc) (h : b = main_arg0 ∨ b = main_arg1) : V5 m d (Proc.devRef .tc b) = m ((d.tc : Thread nD τ).loc b) := by
  rw [← V5_eq, ← V3_arg m d b h]
  delta opsC
  rcases h with rfl | rfl <;> (after_results; exact V4_ne m d (by decide))

theorem V3_emb (d : Dev nD) : V3 m d (Proc.devRef .tc main_v5) = narrow (fnew m d) := by
  rw [← V3_eq]
  delta opsB
  after_results
  unfold V2
  rw [Function.update_self]
  rfl

/-- The first result. -/
theorem V5_emb (d : Dev nD) : V5 m d (Proc.devRef .tc main_v5) = narrow (gat (wide (a1 m d)) (line (a0 m d))) := by
  rw [← ftab_eq, ← fidx_eq, ← V3_emb, ← V5_eq]
  delta opsC
  after_results
  exact V4_ne m d (by decide)

/-- The second. -/
theorem V5_mask (d : Dev nD) : V5 m d (Proc.devRef .tc main_v9) = bits (maskAt (a0 m d)) := by
  rw [show a0 m d = V3 m d (Proc.devRef .tc main_arg0) from (V3_arg m d main_arg0 (Or.inl rfl)).symm, ← V4_mask, ← V5_eq]
  delta opsC
  after_results
  rfl

end Cert.Proof.Gather

end
-- ==== Proof.RefValues.lean ====
/-
  The reference's two results at an index, for row numbers in range: row `x b l` of the table, and the bit that says the
  number is not the padding number and the column is not past the row.
-/
module

public import proofs.«01_k».proof.Proof.Gen.ReferenceIdeal.Run
public import Idealize.ShloMosaic.Lib.ReduceAll
public import Idealize.ShloMosaic.Lib.KernelVsHost

@[expose] public section

noncomputable section

namespace Cert.Proof.Gather

open Idealize.ShloMosaic
open Idealize.ShloMosaic.ValueIdx

/-- Every row number names a row of the table. -/
def InRange (x : (⟨2, ![1024, 200]⟩ : Shape).Idx → BitVec 32) : Prop := ∀ y, (x y).toNat < 1000000

/-- The rows of `w` that `x` names. -/
def rowsOf {α : Type} (x : (⟨2, ![1024, 200]⟩ : Shape).Idx → BitVec 32) (w : (⟨2, ![1000000, 64]⟩ : Shape).Idx → α) :
    (⟨3, ![1024, 200, 64]⟩ : Shape).Idx → α :=
  fun j => w (ix2 (⟨(x (ix2 (j 0) (j 1))).toNat % 1000000, Nat.mod_lt _ (by decide)⟩ : Fin 1000000) (j 2))

/-- The mask: a column whose number is not the padding's and that is not past the row. -/
def maskOf (x : (⟨2, ![1024, 200]⟩ : Shape).Idx → BitVec 32) : (⟨4, ![1024, 1, 200, 200]⟩ : Shape).Idx → BitVec 1 :=
  fun j => if x (ix2 (j 0) (j 3)) ≠ 0#32 ∧ (j 3).val ≤ (j 2).val then 1#1 else 0#1

/-! ## Comparisons of words -/

theorem bit_of (p : Prop) [Decidable p] : BitVec.ofBool (decide p) = if p then 1#1 else 0#1 := by
  by_cases h : p <;> simp [h]

theorem toInt_small {v : BitVec 32} (h : v.toNat < 2147483648) : v.toInt = (v.toNat : Int) := by
  rw [BitVec.toInt_eq_toNat_cond]; split <;> omega

theorem word_slt_zero {v : BitVec 32} (h : v.toNat < 1000000) : IntOp.cmpi .slt v 0#32 = 0#1 := by
  have hv := toInt_small (v := v) (by omega)
  simp only [IntOp.cmpi, BitVec.slt_eq_decide, hv, bit_of]
  rw [if_neg]
  simp only [BitVec.toInt_zero]; omega

theorem word_sge_zero {v : BitVec 32} (h : v.toNat < 1000000) : IntOp.cmpi .sge v 0#32 = 1#1 := by
  have hv := toInt_small (v := v) (by omega)
  simp only [IntOp.cmpi, BitVec.sle_eq_decide, hv, bit_of]
  rw [if_pos]
  simp only [BitVec.toInt_zero]; omega

theorem word_sle_last {v : BitVec 32} (h : v.toNat < 1000000) : IntOp.cmpi .sle v 999999#32 = 1#1 := by
  have hv := toInt_small (v := v) (by omega)
  have hl := toInt_small (v := 999999#32) (by decide)
  simp only [IntOp.cmpi, BitVec.sle_eq_decide, hv, hl, bit_of]
  rw [if_pos]
  show (v.toNat : Int) ≤ ((999999#32 : BitVec 32).toNat : Int)
  simp only [BitVec.toNat_ofNat]; omega

theorem word_ne_zero (v : BitVec 32) : IntOp.cmpi .ne v 0#32 = if v ≠ 0#32 then 1#1 else 0#1 := by
  by_cases h : v = 0#32
  · subst h; decide
  · rw [if_pos h]; exact congrArg BitVec.ofBool (bne_iff_ne.mpr h)

/-- A word in the range the precondition states. -/
theorem word_in_range {v : BitVec 32} (e : IntOp.andi (IntOp.cmpi .sge v 0#32) (IntOp.cmpi .slt v 1000000#32) = 1#1) :
    v.toNat < 1000000 := by
  have hb : ∀ p q : Bool, IntOp.andi (BitVec.ofBool p) (BitVec.ofBool q) = 1#1 → p = true ∧ q = true := by decide
  have h := hb _ _ e
  simp only [BitVec.sle_eq_decide, BitVec.slt_eq_decide, decide_eq_true_eq, BitVec.toInt_eq_toNat_cond, BitVec.toNat_ofNat,
    Nat.reducePow, Nat.reduceMod] at h
  omega

/-! ## The first result -/

section Ref

open Cert.ReferenceIdeal Cert.ReferenceIdeal.Gen

/-- The row numbers as `jnp.take` wraps them: a negative one counts from the table's end. -/
def wrapped (x : S1024x200.Idx → BitVec 32) : S1024x200x1.Idx → BitVec 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 1000000#32))) x)

variable {F : FTy → Type} [FloatOps F]

/-- The reference's first result. -/
def refEmb (x : S1024x200.Idx → BitVec 32) (w : S1000000x64.Idx → F .f32) : S1024x200x64.Idx → F .f32 :=
  select (broadcastInDim S1024x200x64 ![0, 1] bcast_S1024x200_S1024x200x64_0_1
      (Host.reduce IntOp.andi
        (andi (cmpi .sge (wrapped x) (broadcastInDim S1024x200x1 ![] bcast_S_S1024x200x1 (constantI S_ 32 0#32)))
          (cmpi .sle (wrapped x) (broadcastInDim S1024x200x1 ![0, 1, 2] bcast_S1x1x1_S1024x200x1_0_1_2
            (broadcastInDim S1x1x1 ![2] bcast_S1_S1x1x1_2 (constantI S1 32 999999#32)))))
        (constantI S_ 1 1#1) reducesTo_S1024x200x1_S1024x200_d2 h_S_))
    (Host.gather gather_S1000000x64_S1024x200x1_S1024x200x64_2_0_n_n_0_2_164 w (wrapped x))
    (broadcastInDim S1024x200x64 ![] bcast_S_S1024x200x64 (constant S_ .f32 0x7FC00000#32))

/-- In range nothing wraps. -/
theorem wrapped_apply {x : S1024x200.Idx → BitVec 32} (hx : InRange x) (i : S1024x200x1.Idx) :
    wrapped x i = x (ix2 (i 0) (i 1)) := by
  refine (broadcastInDim_apply _ _ _ i (ix2 (i 0) (i 1)) (fun a => by
    match a with
    | ⟨0, _⟩ => rfl
    | ⟨1, _⟩ => rfl)).trans ?_
  show Scalar.select (IntOp.cmpi .slt (x (ix2 (i 0) (i 1))) 0#32) _ _ = _
  rw [word_slt_zero (hx _)]
  rfl

/-- The gather of whole rows at an index: the operand's row at the start index, clamped into the table. -/
theorem gather_rows_apply {α : Type} (w : S1000000x64.Idx → α) (idx : S1024x200x1.Idx → BitVec 32) (j : S1024x200x64.Idx) :
    Host.gather gather_S1000000x64_S1024x200x1_S1024x200x64_2_0_n_n_0_2_164 w idx j
      = w (ix2 (⟨min (idx (ix3 (j 0) (j 1) (0 : Fin 1))).toInt.toNat 999999, by omega⟩ : Fin 1000000) (j 2)) := by
  unfold Host.gather
  refine congrArg w (funext fun a => Fin.ext ?_)
  show GatherDims.start _ j idx a + GatherDims.batchCoord _ j a + GatherDims.offCoord _ j a = _
  rw [show GatherDims.batchCoord gather_S1000000x64_S1024x200x1_S1024x200x64_2_0_n_n_0_2_164 j a = 0 from by
    unfold GatherDims.batchCoord; exact dif_neg List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 2) ∈ gather_S1000000x64_S1024x200x1_S1024x200x64_2_0_n_n_0_2_164.startIndexMap from List.mem_singleton.mpr rfl)]
    refine (Nat.add_zero _).trans ((Nat.add_zero _).trans ?_)
    refine congrArg₂ min (congrArg (fun i => (idx i).toInt.toNat) (funext fun b => Fin.ext ?_)) rfl
    match b with
    | ⟨0, _⟩ => rfl
    | ⟨1, _⟩ => rfl
    | ⟨2, _⟩ => rfl
  | ⟨1, _⟩ =>
    unfold GatherDims.start GatherDims.offCoord
    rw [dif_neg (show (⟨1, _⟩ : Fin 2) ∉ gather_S1000000x64_S1024x200x1_S1024x200x64_2_0_n_n_0_2_164.startIndexMap from by
        intro h; exact Nat.one_ne_zero (congrArg Fin.val (List.mem_singleton.mp h))),
      dif_pos ((GatherDims.mem_sKept _ _).mpr ⟨by
        intro h; exact Nat.one_ne_zero (congrArg Fin.val (List.mem_singleton.mp h)), List.not_mem_nil⟩)]
    exact (congrArg (· + _) (Nat.zero_add 0)).trans ((Nat.zero_add _).trans rfl)

theorem refEmb_eq {x : S1024x200.Idx → BitVec 32} (hx : InRange x) (w : S1000000x64.Idx → F .f32) : refEmb x w = rowsOf x w := by
  funext j
  unfold refEmb
  show Scalar.select (Host.reduce IntOp.andi _ _ _ _ _) _ _ = _
  rw [Host.reduce_andi_one _ _ _ _ _ rfl (fun i => by
    show IntOp.andi (IntOp.cmpi .sge (wrapped x i) 0#32) (IntOp.cmpi .sle (wrapped x i) 999999#32) = 1#1
    rw [wrapped_apply hx, word_sge_zero (hx _), word_sle_last (hx _)]; rfl), select_one, gather_rows_apply]
  refine congrArg w (congrArg (fun k => ix2 k (j 2)) (Fin.ext ?_))
  have h := hx (ix2 (j 0) (j 1))
  have e : wrapped x (ix3 (j 0) (j 1) (0 : Fin 1)) = x (ix2 (j 0) (j 1)) := wrapped_apply hx _
  show min (wrapped x (ix3 (j 0) (j 1) (0 : Fin 1))).toInt.toNat 999999 = (x (ix2 (j 0) (j 1))).toNat % 1000000
  rw [e, toInt_small (by omega), Nat.mod_eq_of_lt h, Int.toNat_natCast]
  omega

/-! ## The second -/

/-- The reference's second result. -/
def refMask (x : S1024x200.Idx → BitVec 32) : S1024x1x200x200.Idx → BitVec 1 :=
  andi (broadcastInDim S1024x1x200x200 ![0, 1, 2, 3] bcast_S1024x1x1x200_S1024x1x200x200_0_1_2_3
      (broadcastInDim S1024x1x1x200 ![0, 3] bcast_S1024x200_S1024x1x1x200_0_3
        (cmpi .ne x (broadcastInDim S1024x200 ![] bcast_S_S1024x200 (constantI S_ 32 0#32)))))
    (broadcastInDim S1024x1x200x200 ![0, 1, 2, 3] bcast_S1x1x200x200_S1024x1x200x200_0_1_2_3
      (broadcastInDim S1x1x200x200 ![2, 3] bcast_S200x200_S1x1x200x200_2_3
        (id (cmpi .ne (select (cmpi .sge (addi (iotaInDim S200x200 32 0) (broadcastInDim S200x200 ![] bcast_S_S200x200 (constantI S_ 32 0#32)))
            (iotaInDim S200x200 32 1))
          (broadcastInDim S200x200 ![] bcast_S_S200x200 (constantI S_ 8 1#8))
          (broadcastInDim S200x200 ![] bcast_S_S200x200 (constantI S_ 8 0#8)))
        (broadcastInDim S200x200 ![] bcast_S_S200x200 (constantI S_ 8 0#8))))))

/-- One entry of the lower triangle. -/
theorem tril_word (r c : Nat) (hr : r < 200) (hc : c < 200) :
    IntOp.cmpi .ne (Scalar.select (IntOp.cmpi .sge (IntOp.addi (BitVec.ofNat 32 r) 0#32) (BitVec.ofNat 32 c)) 1#8 0#8) 0#8
      = if c ≤ r then 1#1 else 0#1 := by
  have hR : (BitVec.ofNat 32 r).toInt = (r : Int) := by
    rw [toInt_small (by simp only [BitVec.toNat_ofNat]; omega), BitVec.toNat_ofNat, Nat.mod_eq_of_lt (by omega)]
  have hC : (BitVec.ofNat 32 c).toInt = (c : Int) := by
    rw [toInt_small (by simp only [BitVec.toNat_ofNat]; omega), BitVec.toNat_ofNat, Nat.mod_eq_of_lt (by omega)]
  have hg : IntOp.cmpi .sge (IntOp.addi (BitVec.ofNat 32 r) 0#32) (BitVec.ofNat 32 c) = if c ≤ r then 1#1 else 0#1 := by
    show IntOp.cmpi .sge (BitVec.ofNat 32 r + 0#32) (BitVec.ofNat 32 c) = _
    rw [BitVec.add_zero]
    simp only [IntOp.cmpi, BitVec.sle_eq_decide, hR, hC, bit_of, Nat.cast_le]
  rw [hg]
  split <;> decide

theorem refMask_eq (x : S1024x200.Idx → BitVec 32) : refMask x = maskOf x := by
  funext j
  unfold refMask
  refine (congrArg₂ IntOp.andi
    ((broadcastInDim_apply _ bcast_S1024x1x1x200_S1024x1x200x200_0_1_2_3 _ j (ix4 (j 0) (0 : Fin 1) (0 : Fin 1) (j 3)) (fun a => by
      match a with
      | ⟨0, _⟩ => rfl
      | ⟨1, _⟩ => rfl
      | ⟨2, _⟩ => rfl
      | ⟨3, _⟩ => rfl)).trans
    (broadcastInDim_apply _ bcast_S1024x200_S1024x1x1x200_0_3 _ (ix4 (j 0) (0 : Fin 1) (0 : Fin 1) (j 3)) (ix2 (j 0) (j 3)) (fun a => by
      match a with
      | ⟨0, _⟩ => rfl
      | ⟨1, _⟩ => rfl)))
    ((broadcastInDim_apply _ bcast_S1x1x200x200_S1024x1x200x200_0_1_2_3 _ j (ix4 (0 : Fin 1) (0 : Fin 1) (j 2) (j 3)) (fun a => by
      match a with
      | ⟨0, _⟩ => rfl
      | ⟨1, _⟩ => rfl
      | ⟨2, _⟩ => rfl
      | ⟨3, _⟩ => rfl)).trans
    (broadcastInDim_apply _ bcast_S200x200_S1x1x200x200_2_3 _ (ix4 (0 : Fin 1) (0 : Fin 1) (j 2) (j 3)) (ix2 (j 2) (j 3)) (fun a => by
      match a with
      | ⟨0, _⟩ => rfl
      | ⟨1, _⟩ => rfl)))).trans ?_
  show IntOp.andi (IntOp.cmpi .ne (x (ix2 (j 0) (j 3))) 0#32)
      (IntOp.cmpi .ne (Scalar.select (IntOp.cmpi .sge (IntOp.addi (BitVec.ofNat 32 (j 2).val) 0#32) (BitVec.ofNat 32 (j 3).val)) 1#8 0#8) 0#8) = _
  rw [tril_word _ _ (j 2).isLt (j 3).isLt]
  rw [word_ne_zero]
  unfold maskOf
  by_cases h : x (ix2 (j 0) (j 3)) = 0#32 <;> by_cases h' : (j 3).val ≤ (j 2).val <;> simp [h, h', IntOp.andi]

end Ref

end Cert.Proof.Gather

end
-- ==== Proof.Values.lean ====
/-
  The kernel's two results at an index, and the precondition read as a range of the row numbers.
-/
module

public import proofs.«01_k».proof.Proof.Ends
public import proofs.«01_k».proof.Proof.RefValues
public import proofs.«01_k».proof.Proof.Gen.Pre_in_range

@[expose] public section

noncomputable section

namespace Cert.Proof.Gather

open Cert.KernelIdeal Cert.KernelIdeal.Gen
open Idealize.ShloMosaic hiding ix0 ix1 ix2
open Idealize.ShloMosaic.ValueIdx

variable {F : FTy → Type} [FloatOps F] [∀ e, Nonempty (Elt F e)]

/-- The line of row numbers at a place: the row number of the place's row and column. -/
theorem line_apply (x : S1024x200.Idx → BitVec 32) (b : Fin 1024) (l : Fin 200) (k : Fin 204800) (hk : k.val = b.val * 200 + l.val) :
    line x (ix2 (0 : Fin 1) k) = x (ix2 b l) := by
  unfold line
  refine (shapeCast_apply _ _ (ix2 (0 : Fin 1) k) (ix1 k) ?_).trans (shapeCast_apply _ _ (ix1 k) (ix2 b l) ?_)
  · rw [Shape.rowMajor_val_one, Shape.rowMajor_val_two]
    show k.val = (0 : Fin 1).val * _ + k.val
    exact ((congrArg (· + k.val) (Nat.zero_mul _)).trans (Nat.zero_add _)).symm
  · rw [Shape.rowMajor_val_one, Shape.rowMajor_val_two]
    show b.val * 200 + l.val = k.val
    omega

/-- Every place of the line holds some row number of the argument. -/
theorem line_mem (x : S1024x200.Idx → BitVec 32) (y : S1x204800.Idx) : ∃ z, line x y = x z := ⟨_, rfl⟩

/-- The first 64 lanes of a widened row are the row. -/
theorem wide_apply (w : S1000000x64.Idx → F .f32) (r : Fin 1000000) (e : Fin 64) (e' : Fin 128) (he : e'.val = e.val) :
    wide w (ix2 r e') = w (ix2 r e) := by
  unfold wide
  refine pad_apply_of_inside _ _ _ _ _ _ _ (ix2 r e') (ix2 r e) fun a => ?_
  match a with
  | ⟨0, _⟩ => show r.val = 0 + r.val * (0 + 1); omega
  | ⟨1, _⟩ => show e'.val = 0 + e.val * (0 + 1); omega

/-- The kernel's first result is the rows named. -/
theorem emb_eq (x : S1024x200.Idx → BitVec 32) (w : S1000000x64.Idx → F .f32) : narrow (gat (wide w) (line x)) = rowsOf x w := by
  funext j
  have hb := (j 0).isLt
  have hl := (j 1).isLt
  have he := (j 2).isLt
  have hb' : (j 0).val < 1024 := hb
  have hl' : (j 1).val < 200 := hl
  have he' : (j 2).val < 64 := he
  have hk : (j 0).val * 200 + (j 1).val < 204800 := by omega
  unfold narrow
  refine (shapeCast_apply _ _ j (ix2 (⟨(j 0).val * 200 + (j 1).val, hk⟩ : Fin 204800) (⟨(j 2).val, he'⟩ : Fin 64)) ?_).trans ?_
  · rw [Shape.rowMajor_val_two, Shape.rowMajor_val_three]; rfl
  refine (extractStridedSlice_apply _ _ _ _ (ix2 (⟨(j 0).val * 200 + (j 1).val, hk⟩ : Fin 204800) (⟨(j 2).val, by omega⟩ : Fin 128)) fun a => ?_).trans ?_
  · match a with
    | ⟨0, _⟩ => show (j 0).val * 200 + (j 1).val = 0 + ((j 0).val * 200 + (j 1).val); omega
    | ⟨1, _⟩ => show (j 2).val = 0 + (j 2).val; omega
  unfold gat rowsOf
  refine (wide_apply w _ (⟨(j 2).val, he'⟩ : Fin 64) (⟨(j 2).val, by omega⟩ : Fin 128) rfl).trans ?_
  refine congrArg w (congrArg (fun k => ix2 k (⟨(j 2).val, he'⟩ : Fin 64)) (Fin.ext ?_))
  exact congrArg (fun v : BitVec 32 => v.toNat % 1000000) (line_apply x (j 0) (j 1) _ rfl)

/-- And its second is the mask. -/
theorem bits_eq (x : S1024x200.Idx → BitVec 32) : bits (maskAt x) = maskOf x := by
  funext j
  show IntOp.cmpi .ne (if x (ix2 (j 0) (j 3)) ≠ 0#32 ∧ (j 3).val ≤ (j 2).val then 1#32 else 0#32) 0#32
    = if x (ix2 (j 0) (j 3)) ≠ 0#32 ∧ (j 3).val ≤ (j 2).val then 1#1 else 0#1
  rw [word_ne_zero]
  by_cases h : x (ix2 (j 0) (j 3)) ≠ 0#32 ∧ (j 3).val ≤ (j 2).val
  · rw [if_pos h, if_pos h]; rfl
  · rw [if_neg h, if_neg h]; rfl

/-- The precondition says the row numbers are in range. -/
theorem inRange_of_pre (x : S1024x200.Idx → BitVec 32) (w : S1000000x64.Idx → F .f32)
    (h : Cert.Pre_in_range.fn (F := F) x w = fun _ => 1#1) : InRange x := by
  intro y
  have e := congrFun h ix0
  haveI : Subsingleton Cert.Pre_in_range.S_.Idx := ⟨fun a b => funext fun i => i.elim0⟩
  exact word_in_range (Host.reduce_andi_all _ _ _ _ _ e y)

variable (m : (ℓ : Loc nD τ sig) → Buf (Elt F) ℓ)

/-- Then so are the ones the SparseCore call reads. -/
theorem rowsOK_of (h : ∀ d, InRange (a0 m d)) : RowsOK (fidx m) := by
  intro d y
  rw [fidx_eq]
  obtain ⟨z, hz⟩ := line_mem (a0 m d) y
  rw [hz]; exact h d z

end Cert.Proof.Gather

end
-- ==== Proof.lean ====
/-
  The claims of the embedding lookup (`Cert.Claim`, Defs.lean).

  The kernel's run is proved once, over any float values (`kernel_ends`), and so is the reference's (`reference_ends`); each
  claim reads one or both of them. The bit-level programs and the idealized ones are the same text, so the runs serve both.
-/
module

public import proofs.«01_k».proof.Defs
public import proofs.«01_k».proof.Proof.Values
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem
open Cert.Proof.Gather

variable {F : FTy → Type} [FloatOps F] [∀ e, Nonempty (Elt F e)]

/-- The kernel's run on row numbers in range: the rows they name, the mask, the arguments kept, the counters at zero. -/
theorem kernel_ends (m : (ℓ : Loc Cert.KernelIdeal.nD Cert.KernelIdeal.τ Cert.KernelIdeal.sig) → Buf (Elt F) ℓ)
    (ρ : Dev Cert.KernelIdeal.nD → PrngReg) (h : ∀ c, InRange (a0 m c)) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v5) = rowsOf (a0 m c) (a1 m c)
        ∧ r.2.mem ((c.tc : Thread Cert.KernelIdeal.nD Cert.KernelIdeal.τ).loc Cert.KernelIdeal.main_v9) = maskOf (a0 m c)
        ∧ r.2.mem ((c.tc : Thread Cert.KernelIdeal.nD Cert.KernelIdeal.τ).loc Cert.KernelIdeal.main_arg0) = a0 m c
        ∧ r.2.mem ((c.tc : Thread Cert.KernelIdeal.nD Cert.KernelIdeal.τ).loc Cert.KernelIdeal.main_arg1) = a1 m c)
      ∧ r.2.sem = fun _ => 0 :=
  (θ_run Cert.KernelIdeal.defs _ _).mono
    (fun _ hr => ⟨fun c =>
      ⟨(hr.1 c Cert.KernelIdeal.main_v5 rfl).trans ((V5_emb m c).trans (emb_eq (a0 m c) (a1 m c))),
        (hr.1 c Cert.KernelIdeal.main_v9 rfl).trans ((V5_mask m c).trans (bits_eq (a0 m c))),
        (hr.1 c Cert.KernelIdeal.main_arg0 rfl).trans (V5_arg m c _ (.inl rfl)),
        (hr.1 c Cert.KernelIdeal.main_arg1 rfl).trans (V5_arg m c _ (.inr rfl))⟩, hr.2⟩)
    (run_main m ρ (rowsOK_of m h))

/-- The arguments of the reference on device `c` at launch. -/
abbrev r0 (m : (ℓ : Loc Cert.ReferenceIdeal.nD Cert.ReferenceIdeal.τ Cert.ReferenceIdeal.sig) → Buf (Elt F) ℓ)
    (c : Dev Cert.ReferenceIdeal.nD) : (⟨2, ![1024, 200]⟩ : Shape).Idx → BitVec 32 :=
  m ((c.tc : Thread Cert.ReferenceIdeal.nD Cert.ReferenceIdeal.τ).loc Cert.ReferenceIdeal.main_arg0)
abbrev r1 (m : (ℓ : Loc Cert.ReferenceIdeal.nD Cert.ReferenceIdeal.τ Cert.ReferenceIdeal.sig) → Buf (Elt F) ℓ)
    (c : Dev Cert.ReferenceIdeal.nD) : (⟨2, ![1000000, 64]⟩ : Shape).Idx → F .f32 :=
  m ((c.tc : Thread Cert.ReferenceIdeal.nD Cert.ReferenceIdeal.τ).loc Cert.ReferenceIdeal.main_arg1)

/-- The reference's run on row numbers in range: the same two results, the arguments kept. -/
theorem reference_ends (m : (ℓ : Loc Cert.ReferenceIdeal.nD Cert.ReferenceIdeal.τ Cert.ReferenceIdeal.sig) → Buf (Elt F) ℓ)
    (ρ : Dev Cert.ReferenceIdeal.nD → PrngReg) (h : ∀ c, InRange (r0 m c)) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v12) = rowsOf (r0 m c) (r1 m c)
        ∧ r.2.mem ((c.tc : Thread Cert.ReferenceIdeal.nD Cert.ReferenceIdeal.τ).loc Cert.ReferenceIdeal.main_v11) = maskOf (r0 m c)
        ∧ r.2.mem ((c.tc : Thread Cert.ReferenceIdeal.nD Cert.ReferenceIdeal.τ).loc Cert.ReferenceIdeal.main_arg0) = r0 m c
        ∧ r.2.mem ((c.tc : Thread Cert.ReferenceIdeal.nD Cert.ReferenceIdeal.τ).loc Cert.ReferenceIdeal.main_arg1) = r1 m c :=
  (θ_run Cert.ReferenceIdeal.defs _ _).mono
    (fun _ hr c => ⟨(hr c).1.trans (refEmb_eq (h c) (r1 m c)), (hr c).2.1.trans (refMask_eq (r0 m c)), (hr c).2.2⟩)
    (Cert.ReferenceIdeal.Value.run m ρ)

/-! ## The bit-level kernel is the idealized one's text -/

theorem bodies_eq : Cert.Kernel.defs₀ (F := F) = Cert.KernelIdeal.defs₀ (F := F) := by
  funext p l a
  rcases p with _ | _ | _ <;> (match l with
    | 0 => rfl
    | 1 => rfl)

theorem defs_eq : Cert.Kernel.defs (F := F) = Cert.KernelIdeal.defs (F := F) :=
  congrArg (fun D => (Cert.KernelIdeal.sc (F := F)).defs (Pipeline.defs Cert.KernelIdeal.pcfgs D)) bodies_eq

/-- What a run of the one program ends in, a run of the other does. -/
theorem run_of_ideal (m : (ℓ : Loc Cert.Kernel.nD Cert.Kernel.τ Cert.Kernel.sig) → Buf (Elt F) ℓ) (ρ : Dev Cert.Kernel.nD → PrngReg)
    {Q : PUnit × MemSt Cert.Kernel.nD Cert.Kernel.τ Cert.Kernel.sig (Elt F) → Prop}
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_eq]
  exact h

/-! ## The frames -/

theorem frame_kernel : Cert.quiescent_Kernel := fun m ρ hpre =>
  run_of_ideal m ρ ((θ_run Cert.KernelIdeal.defs _ _).mono (fun _ h => ⟨fun c => (h.1 c).2.2, h.2⟩)
    (kernel_ends (F := Bits) m ρ fun c => inRange_of_pre _ _ (hpre c)))

theorem frame_kernelIdeal : Cert.quiescent_KernelIdeal := fun m ρ hpre =>
  (θ_run Cert.KernelIdeal.defs _ _).mono (fun _ h => ⟨fun c => (h.1 c).2.2, h.2⟩)
    (kernel_ends (F := Ideal) m ρ fun c => inRange_of_pre _ _ (hpre c))

/-- The reference keeps its arguments whatever they are; it declares no semaphore. -/
theorem frame_reference : Cert.quiescent_Reference := fun m ρ _ =>
  (θ_run Cert.ReferenceIdeal.defs _ _).mono (fun r h => ⟨fun c => (h c).2.2, sem_eq_zero_of_no_sems (by decide) r.2⟩)
    (Cert.ReferenceIdeal.Value.run (F := Bits) m ρ)

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The values -/

/-- The two programs, from memories that agree on the arguments, end with the same two results. -/
theorem same_results (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (ρ' : Dev Cert.ReferenceIdeal.nD → PrngReg) (h : ∀ c, InRange (a0 m c))
    (hagree : ∀ c : Dev Cert.KernelIdeal.nD, r0 m' c = a0 m c ∧ r1 m' c = a1 m c) :
    θ_run (Cert.ReferenceIdeal.defs (F := F)) (onTc (τ := Cert.ReferenceIdeal.τ) (Cert.ReferenceIdeal.main (F := F))) ⟨m', fun _ => 0, ρ'⟩
      fun r => ∀ c : Dev Cert.ReferenceIdeal.nD,
        r.2.mem ((c.tc : Thread Cert.ReferenceIdeal.nD Cert.ReferenceIdeal.τ).loc Cert.ReferenceIdeal.main_v12) = rowsOf (a0 m c) (a1 m c)
        ∧ r.2.mem ((c.tc : Thread Cert.ReferenceIdeal.nD Cert.ReferenceIdeal.τ).loc Cert.ReferenceIdeal.main_v11) = maskOf (a0 m c)
        ∧ r.2.mem ((c.tc : Thread Cert.ReferenceIdeal.nD Cert.ReferenceIdeal.τ).loc Cert.ReferenceIdeal.main_arg0) = r0 m' c
        ∧ r.2.mem ((c.tc : Thread Cert.ReferenceIdeal.nD Cert.ReferenceIdeal.τ).loc Cert.ReferenceIdeal.main_arg1) = r1 m' c :=
  (θ_run Cert.ReferenceIdeal.defs _ _).mono
    (fun _ hr c => ⟨(hr c).1.trans (congrArg₂ rowsOf (hagree c).1 (hagree c).2), (hr c).2.1.trans (congrArg maskOf (hagree c).1), (hr c).2.2⟩)
    (reference_ends m' ρ' fun c => (congrArg InRange (hagree c).1).mpr (h c))

theorem bitexact : Cert.bitexact_Kernel_Reference := fun m ρ m' ρ' hpre hagree =>
  have hin : ∀ c, InRange (a0 (F := Bits) m c) := fun c => inRange_of_pre _ _ (hpre c)
  ⟨fun c => rowsOf (a0 (F := Bits) m c) (a1 (F := Bits) m c), fun c => maskOf (a0 (F := Bits) m c),
    run_of_ideal m ρ ((θ_run Cert.KernelIdeal.defs _ _).mono (fun _ h => h.1) (kernel_ends (F := Bits) m ρ hin)),
    same_results (F := Bits) m m' ρ' hin hagree⟩

theorem algebraic : Cert.algebraic_KernelIdeal_ReferenceIdeal := fun m ρ m' ρ' hpre hagree =>
  have hin : ∀ c, InRange (a0 (F := Ideal) m c) := fun c => inRange_of_pre _ _ (hpre c)
  ⟨fun c => rowsOf (a0 (F := Ideal) m c) (a1 (F := Ideal) m c), fun c => maskOf (a0 (F := Ideal) m c),
    (θ_run Cert.KernelIdeal.defs _ _).mono (fun _ h => h.1) (kernel_ends (F := Ideal) m ρ hin),
    same_results (F := Ideal) m m' ρ' hin hagree⟩

theorem claim : Cert.Claim :=
  ⟨Cert.Kernel.Gen.facts, Cert.KernelIdeal.Gen.facts, Cert.Reference.Gen.facts, Cert.ReferenceIdeal.Gen.facts, Cert.Pre_in_range.Gen.facts,
    frame_kernel, frame_kernelIdeal, frame_reference, fun m ρ _ => frame_reference m ρ trivial,
    frame_referenceIdeal, fun m ρ _ => frame_referenceIdeal m ρ trivial, trivial, bitexact, algebraic⟩

end Cert.Proof

end
